-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S32 : Shape := ⟨1, ![32]⟩
abbrev S256x512 : Shape := ⟨2, ![256, 512]⟩
abbrev S1x256x512 : Shape := ⟨3, ![1, 256, 512]⟩
abbrev S2x256x512 : Shape := ⟨3, ![2, 256, 512]⟩
abbrev S4x2x256x512 : Shape := ⟨4, ![4, 2, 256, 512]⟩
abbrev S4 : Shape := ⟨1, ![4]⟩
abbrev S1 : Shape := ⟨1, ![1]⟩
abbrev S_ : Shape := ⟨0, ![]⟩
abbrev S256x256 : Shape := ⟨2, ![256, 256]⟩
abbrev S256x1 : Shape := ⟨2, ![256, 1]⟩
abbrev S256x64 : Shape := ⟨2, ![256, 64]⟩
abbrev S1x2x256x512 : Shape := ⟨4, ![1, 2, 256, 512]⟩
abbrev S256 : Shape := ⟨1, ![256]⟩
abbrev S1x1x256x512 : Shape := ⟨4, ![1, 1, 256, 512]⟩

abbrev nBuf : Space → Nat
  | .hbm => 15
  | .vmem => 7
  | .smem => 2
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x8x64, .f32⟩
  | .hbm, ⟨3, _⟩ => ⟨S2x128x8x64, .f32⟩
  | .hbm, ⟨4, _⟩ => ⟨S512x512, .f32⟩
  | .hbm, ⟨5, _⟩ => ⟨S32, .i32⟩
  | .hbm, ⟨6, _⟩ => ⟨S32, .i32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S1x256x512, .f32⟩
  | .hbm, ⟨11, _⟩ => ⟨S1x256x512, .f32⟩
  | .hbm, ⟨12, _⟩ => ⟨S2x256x512, .f32⟩
  | .hbm, ⟨13, _⟩ => ⟨S256x512, .f32⟩
  | .hbm, ⟨14, _⟩ => ⟨S2x128x512, .f32⟩
  | .local _ .vmem, ⟨0, _⟩ => ⟨S256x512, .f32⟩
  | .local _ .vmem, ⟨1, _⟩ => ⟨S512x512, .f32⟩
  | .local _ .vmem, ⟨2, _⟩ => ⟨S512x512, .f32⟩
  | .local _ .vmem, ⟨3, _⟩ => ⟨S2x256x512, .f32⟩
  | .local _ .vmem, ⟨4, _⟩ => ⟨S256x512, .f32⟩
  | .local _ .vmem, ⟨5, _⟩ => ⟨S4x2x256x512, .f32⟩
  | .local _ .vmem, ⟨6, _⟩ => ⟨S4x2x256x512, .f32⟩
  | .local _ .smem, ⟨0, _⟩ => ⟨S32, .i32⟩
  | .local _ .smem, ⟨1, _⟩ => ⟨S32, .i32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_dev1 (v6 : BitVec 32) : Nat :=
  let c0_i32 : BitVec 32 := 0#32
  let c1_i32_1 : BitVec 32 := 1#32
  let v8 : BitVec 32 := Scalar.muli v6 c1_i32_1
  let v9 : BitVec 32 := Scalar.addi c0_i32 v8
  v9.toNat

def k0_dev2 (v4 : BitVec 32) : Nat :=
  let c0_i32_4 : BitVec 32 := 0#32
  let c1_i32_3 : BitVec 32 := 1#32
  let v10 : BitVec 32 := Scalar.muli v4 c1_i32_3
  let v11 : BitVec 32 := Scalar.addi c0_i32_4 v10
  v11.toNat

def k0_dev3 (v4 : BitVec 32) : Nat :=
  let c0_i32_34 : BitVec 32 := 0#32
  let c1_i32_33 : BitVec 32 := 1#32
  let v44 : BitVec 32 := Scalar.muli v4 c1_i32_33
  let v45 : BitVec 32 := Scalar.addi c0_i32_34 v44
  v45.toNat
def k0_dev4 (v6 : BitVec 32) : Nat :=
  let c0_i32_42 : BitVec 32 := 0#32
  let c1_i32_41 : BitVec 32 := 1#32
  let v52 : BitVec 32 := Scalar.muli v6 c1_i32_41
  let v53 : BitVec 32 := Scalar.addi c0_i32_42 v52
  v53.toNat
@[reducible] def k0_t1_loop : Scf.Loop 32 :=
  let c1_i32_133 : BitVec 32 := 1#32
  let c14_i32 : BitVec 32 := 14#32
  let v281 : BitVec 32 := Scalar.addi c1_i32_133 c14_i32
  let c1_i32_134 : BitVec 32 := 1#32
  ⟨c1_i32_133, v281, c1_i32_134⟩
def k0_off2 (k0_t1 : Fin k0_t1_loop.trips) : Fin 1 → Nat :=
  let c1_i32_133 : BitVec 32 := 1#32
  let c1_i32_134 : BitVec 32 := 1#32
  let arg13 : BitVec 32 := Scf.iv c1_i32_133 c1_i32_134 k0_t1
  let c4_i32_335 : BitVec 32 := 4#32
  let v920 : BitVec 32 := Scalar.remsi arg13 c4_i32_335
  ![v920.toNat]
def k0_off3 (k0_t1 : Fin k0_t1_loop.trips) : Fin 1 → Nat :=
  let c1_i32_133 : BitVec 32 := 1#32
  let c1_i32_134 : BitVec 32 := 1#32
  let arg13 : BitVec 32 := Scf.iv c1_i32_133 c1_i32_134 k0_t1
  let c1_i32_338 : BitVec 32 := 1#32
  let v923 : BitVec 32 := Scalar.addi arg13 c1_i32_338
  let c4_i32_339 : BitVec 32 := 4#32
  let v924 : BitVec 32 := Scalar.remsi v923 c4_i32_339
  ![v924.toNat]
def k0_off4 (k0_t1 : Fin k0_t1_loop.trips) : Fin 4 → Nat :=
  let c1_i32_133 : BitVec 32 := 1#32
  let c1_i32_134 : BitVec 32 := 1#32
  let arg13 : BitVec 32 := Scf.iv c1_i32_133 c1_i32_134 k0_t1
  let c1_i32_336 : BitVec 32 := 1#32
  let v921 : BitVec 32 := Scalar.addi arg13 c1_i32_336
  let c4_i32_337 : BitVec 32 := 4#32
  let v922 : BitVec 32 := Scalar.remsi v921 c4_i32_337
  let c0_i32_342 : BitVec 32 := 0#32
  let c0_i32_343 : BitVec 32 := 0#32
  let c0_i32_344 : BitVec 32 := 0#32
  ![v922.toNat, 0, 0, 0]
def k0_off5 (k0_t1 : Fin k0_t1_loop.trips) : Fin 4 → Nat :=
  let c1_i32_133 : BitVec 32 := 1#32
  let c1_i32_134 : BitVec 32 := 1#32
  let arg13 : BitVec 32 := Scf.iv c1_i32_133 c1_i32_134 k0_t1
  let c4_i32_335 : BitVec 32 := 4#32
  let v920 : BitVec 32 := Scalar.remsi arg13 c4_i32_335
  let c0_i32_345 : BitVec 32 := 0#32
  let c0_i32_346 : BitVec 32 := 0#32
  let c0_i32_347 : BitVec 32 := 0#32
  ![v920.toNat, 0, 0, 0]
def k0_dev5 (v4 : BitVec 32) : Nat :=
  let c0_i32_341 : BitVec 32 := 0#32
  let c1_i32_340 : BitVec 32 := 1#32
  let v925 : BitVec 32 := Scalar.muli v4 c1_i32_340
  let v926 : BitVec 32 := Scalar.addi c0_i32_341 v925
  v926.toNat
def k0_dev6 (v6 : BitVec 32) : Nat :=
  let c0_i32_354 : BitVec 32 := 0#32
  let c1_i32_353 : BitVec 32 := 1#32
  let v940 : BitVec 32 := Scalar.muli v6 c1_i32_353
  let v941 : BitVec 32 := Scalar.addi c0_i32_354 v940
  v941.toNat

def k0_chk1 (v6 : BitVec 32) : Prop :=
  ((k0_dev1 v6) < nD) ∧
  ((k0_dev4 v6) < nD) ∧
  ((k0_dev6 v6) < nD)
theorem k0_dev1_lt : ∀ (v6 : BitVec 32) (k0_hw1 : k0_chk1 v6), (k0_dev1 v6) < nD := fun v6 k0_hw1 => k0_hw1.1
theorem k0_dev4_lt : ∀ (v6 : BitVec 32) (k0_hw1 : k0_chk1 v6), (k0_dev4 v6) < nD := fun v6 k0_hw1 => k0_hw1.2.1
theorem k0_dev6_lt : ∀ (v6 : BitVec 32) (k0_hw1 : k0_chk1 v6), (k0_dev6 v6) < nD := fun v6 k0_hw1 => k0_hw1.2.2

def k0_off6 (k0_t1 : Fin k0_t1_loop.trips) : Fin 4 → Nat :=
  let c1_i32_133 : BitVec 32 := 1#32
  let c1_i32_134 : BitVec 32 := 1#32
  let arg13 : BitVec 32 := Scf.iv c1_i32_133 c1_i32_134 k0_t1
  let c4_i32_334 : BitVec 32 := 4#32
  let v919 : BitVec 32 := Scalar.remsi arg13 c4_i32_334
  let v950 : Index := Scalar.indexCast v919
  let c0_361 : Index := 0#32
  let c0_362 : Index := 0#32
  let c0_363 : Index := 0#32
  ![v950.toNat, 0, 0, 0]
def k0_off7 (k0_t1 : Fin k0_t1_loop.trips) : Fin 4 → Nat :=
  let c1_i32_133 : BitVec 32 := 1#32
  let c1_i32_134 : BitVec 32 := 1#32
  let arg13 : BitVec 32 := Scf.iv c1_i32_133 c1_i32_134 k0_t1
  let c4_i32_334 : BitVec 32 := 4#32
  let v919 : BitVec 32 := Scalar.remsi arg13 c4_i32_334
  let v953 : Index := Scalar.indexCast v919
  let c1_364 : Index := 1#32
  let c0_365 : Index := 0#32
  let c0_366 : Index := 0#32
  ![v953.toNat, 1, 0, 0]
def k0_off8 (c15_i32 : BitVec 32) : Fin 1 → Nat :=
  let c4_i32 : BitVec 32 := 4#32
  let v283 : BitVec 32 := Scalar.remsi c15_i32 c4_i32
  ![v283.toNat]
def k0_off9 (c16_i32 : BitVec 32) : Fin 4 → Nat :=
  let c4_i32_136 : BitVec 32 := 4#32
  let v284 : BitVec 32 := Scalar.remsi c16_i32 c4_i32_136
  let c0_i32_141 : BitVec 32 := 0#32
  let c0_i32_142 : BitVec 32 := 0#32
  let c0_i32_143 : BitVec 32 := 0#32
  ![v284.toNat, 0, 0, 0]
def k0_dev7 (v4 : BitVec 32) : Nat :=
  let c0_i32_140 : BitVec 32 := 0#32
  let c1_i32_139 : BitVec 32 := 1#32
  let v286 : BitVec 32 := Scalar.muli v4 c1_i32_139
  let v287 : BitVec 32 := Scalar.addi c0_i32_140 v286
  v287.toNat

def k0_chk2 (v4 : BitVec 32) : Prop :=
  ((k0_dev2 v4) < nD) ∧
  ((k0_dev3 v4) < nD) ∧
  ((k0_dev5 v4) < nD) ∧
  ((k0_dev7 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev5_lt : ∀ (v4 : BitVec 32) (k0_hw2 : k0_chk2 v4), (k0_dev5 v4) < nD := fun v4 k0_hw2 => k0_hw2.2.2.1
theorem k0_dev7_lt : ∀ (v4 : BitVec 32) (k0_hw2 : k0_chk2 v4), (k0_dev7 v4) < nD := fun v4 k0_hw2 => k0_hw2.2.2.2

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x512 : Shape := ⟨2, ![512, 512]⟩
abbrev S2x4096x8x64 : Shape := ⟨4, ![2, 4096, 8, 64]⟩
abbrev S_ : Shape := ⟨0, ![]⟩
abbrev S2x8x4096x1 : Shape := ⟨4, ![2, 8, 4096, 1]⟩
abbrev S2x1024x8x64 : Shape := ⟨4, ![2, 1024, 8, 64]⟩
abbrev S2x8x4096x1024 : Shape := ⟨4, ![2, 8, 4096, 1024]⟩
abbrev S2x8x4096 : Shape := ⟨3, ![2, 8, 4096]⟩
abbrev S2x4096x8x1 : Shape := ⟨4, ![2, 4096, 8, 1]⟩
abbrev S2x8x64x4096 : Shape := ⟨4, ![2, 8, 64, 4096]⟩

abbrev nBuf : Space → Nat
  | .hbm => 122
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x512, .f32⟩
  | .hbm, ⟨2, _⟩ => ⟨S2x4096x8x64, .f32⟩
  | .hbm, ⟨3, _⟩ => ⟨S2x4096x8x64, .f32⟩
  | .hbm, ⟨4, _⟩ => ⟨S512x512, .f32⟩
  | .hbm, ⟨5, _⟩ => ⟨S2x4096x512, .f32⟩
  | .hbm, ⟨6, _⟩ => ⟨S2x4096x8x64, .f32⟩
  | .hbm, ⟨7, _⟩ => ⟨S_, .f32⟩
  | .hbm, ⟨8, _⟩ => ⟨S2x4096x8x64, .f32⟩
  | .hbm, ⟨9, _⟩ => ⟨S_, .f32⟩
  | .hbm, ⟨10, _⟩ => ⟨S2x8x4096x1, .f32⟩
  | .hbm, ⟨11, _⟩ => ⟨S_, .f32⟩
  | .hbm, ⟨12, _⟩ => ⟨S2x8x4096x1, .f32⟩
  | .hbm, ⟨13, _⟩ => ⟨S2x1024x8x64, .f32⟩
  | .hbm, ⟨14, _⟩ => ⟨S2x1024x8x64, .f32⟩
  | .hbm, ⟨15, _⟩ => ⟨S2x8x4096x1024, .f32⟩
  | .hbm, ⟨16, _⟩ => ⟨S_, .f32⟩
  | .hbm, ⟨17, _⟩ => ⟨S2x8x4096x1024, .f32⟩
  | .hbm, ⟨18, _⟩ => ⟨S2x8x4096x1024, .f32⟩
  | .hbm, ⟨19, _⟩ => ⟨S_, .f32⟩
  | .hbm, ⟨20, _⟩ => ⟨S2x8x4096, .f32⟩
  | .hbm, ⟨21, _⟩ => ⟨S2x8x4096x1, .f32⟩
  | .hbm, ⟨22, _⟩ => ⟨S2x8x4096x1, .f32⟩
  | .hbm, ⟨23, _⟩ => ⟨S2x8x4096x1, .f32⟩
  | .hbm, ⟨24, _⟩ => ⟨S2x8x4096x1, .f32⟩
  | .hbm, ⟨25, _⟩ => ⟨S2x8x4096x1024, .f32⟩
  | .hbm, ⟨26, _⟩ => ⟨S2x8x4096x1024, .f32⟩
  | .hbm, ⟨27, _⟩ => ⟨S2x8x4096x1024, .f32⟩
  | .hbm, ⟨28, _⟩ => ⟨S2x8x4096x1, .f32⟩
  | .hbm, ⟨29, _⟩ => ⟨S_, .f32⟩
  | .hbm, ⟨30, _⟩ => ⟨S2x8x4096, .f32⟩
  | .hbm, ⟨31, _⟩ => ⟨S2x8x4096x1, .f32⟩
  | .hbm, ⟨32, _⟩ => ⟨S2x8x4096x1, .f32⟩
  | .hbm, ⟨33, _⟩ => ⟨S2x4096x8x1, .f32⟩
  | .hbm, ⟨34, _⟩ => ⟨S2x4096x8x64, .f32⟩
  | .hbm, ⟨35, _⟩ => ⟨S2x4096x8x64, .f32⟩
  | .hbm, ⟨36, _⟩ => ⟨S2x8x64x4096, .f32⟩
  | .hbm, ⟨37, _⟩ => ⟨S2x4096x8x64, .f32⟩
  | .hbm, ⟨38, _⟩ => ⟨S2x4096x8x64, .f32⟩
  | .hbm, ⟨39, _⟩ => ⟨S2x1024x8x64, .f32⟩
  | .hbm, ⟨40, _⟩ => ⟨S2x1024x8x64, .f32⟩
  | .hbm, ⟨41, _⟩ => ⟨S2x8x4096x1024, .f32⟩
  | .hbm, ⟨42, _⟩ => ⟨S_, .f32⟩
  | .hbm, ⟨43, _⟩ => ⟨S2x8x4096x1024, .f32⟩
  | .hbm, ⟨44, _⟩ => ⟨S2x8x4096x1024, .f32⟩
  | .hbm, ⟨45, _⟩ => ⟨S_, .f32⟩
  | .hbm, ⟨46, _⟩ => ⟨S2x8x4096, .f32⟩
  | .hbm, ⟨47, _⟩ => ⟨S2x8x4096x1, .f32⟩
  | .hbm, ⟨48, _⟩ => ⟨S2x8x4096x1, .f32⟩
  | .hbm, ⟨49, _⟩ => ⟨S2x8x4096x1, .f32⟩
  | .hbm, ⟨50, _⟩ => ⟨S2x8x4096x1, .f32⟩
  | .hbm, ⟨51, _⟩ => ⟨S2x8x4096x1024, .f32⟩
  | .hbm, ⟨52, _⟩ => ⟨S2x8x4096x1024, .f32⟩
  | .hbm, ⟨53, _⟩ => ⟨S2x8x4096x1024, .f32⟩
  | .hbm, ⟨54, _⟩ => ⟨S2x8x4096x1, .f32⟩
  | .hbm, ⟨55, _⟩ => ⟨S_, .f32⟩
  | .hbm, ⟨56, _⟩ => ⟨S2x8x4096, .f32⟩
  | .hbm, ⟨57, _⟩ => ⟨S2x8x4096x1, .f32⟩
  | .hbm, ⟨58, _⟩ => ⟨S2x8x4096x1, .f32⟩
  | .hbm, ⟨59, _⟩ => ⟨S2x4096x8x1, .f32⟩
  | .hbm, ⟨60, _⟩ => ⟨S2x4096x8x64, .f32⟩
  | .hbm, ⟨61, _⟩ => ⟨S2x4096x8x64, .f32⟩
  | .hbm, ⟨62, _⟩ => ⟨S2x8x64x4096, .f32⟩
  | .hbm, ⟨63, _⟩ => ⟨S2x4096x8x64, .f32⟩
  | .hbm, ⟨64, _⟩ => ⟨S2x4096x8x64, .f32⟩
  | .hbm, ⟨65, _⟩ => ⟨S2x1024x8x64, .f32⟩
  | .hbm, ⟨66, _⟩ => ⟨S2x1024x8x64, .f32⟩
  | .hbm, ⟨67, _⟩ => ⟨S2x8x4096x1024, .f32⟩
  | .hbm, ⟨68, _⟩ => ⟨S_, .f32⟩
  | .hbm, ⟨69, _⟩ => ⟨S2x8x4096x1024, .f32⟩
  | .hbm, ⟨70, _⟩ => ⟨S2x8x4096x1024, .f32⟩
  | .hbm, ⟨71, _⟩ => ⟨S_, .f32⟩
  | .hbm, ⟨72, _⟩ => ⟨S2x8x4096, .f32⟩
  | .hbm, ⟨73, _⟩ => ⟨S2x8x4096x1, .f32⟩
  | .hbm, ⟨74, _⟩ => ⟨S2x8x4096x1, .f32⟩
  | .hbm, ⟨75, _⟩ => ⟨S2x8x4096x1, .f32⟩
  | .hbm, ⟨76, _⟩ => ⟨S2x8x4096x1, .f32⟩
  | .hbm, ⟨77, _⟩ => ⟨S2x8x4096x1024, .f32⟩
  | .hbm, ⟨78, _⟩ => ⟨S2x8x4096x1024, .f32⟩
  | .hbm, ⟨79, _⟩ => ⟨S2x8x4096x1024, .f32⟩
  | .hbm, ⟨80, _⟩ => ⟨S2x8x4096x1, .f32⟩
  | .hbm, ⟨81, _⟩ => ⟨S_, .f32⟩
  | .hbm, ⟨82, _⟩ => ⟨S2x8x4096, .f32⟩
  | .hbm, ⟨83, _⟩ => ⟨S2x8x4096x1, .f32⟩
  | .hbm, ⟨84, _⟩ => ⟨S2x8x4096x1, .f32⟩
  | .hbm, ⟨85, _⟩ => ⟨S2x4096x8x1, .f32⟩
  | .hbm, ⟨86, _⟩ => ⟨S2x4096x8x64, .f32⟩
  | .hbm, ⟨87, _⟩ => ⟨S2x4096x8x64, .f32⟩
  | .hbm, ⟨88, _⟩ => ⟨S2x8x64x4096, .f32⟩
  | .hbm, ⟨89, _⟩ => ⟨S2x4096x8x64, .f32⟩
  | .hbm, ⟨90, _⟩ => ⟨S2x4096x8x64, .f32⟩
  | .hbm, ⟨91, _⟩ => ⟨S2x1024x8x64, .f32⟩
  | .hbm, ⟨92, _⟩ => ⟨S2x1024x8x64, .f32⟩
  | .hbm, ⟨93, _⟩ => ⟨S2x8x4096x1024, .f32⟩
  | .hbm, ⟨94, _⟩ => ⟨S_, .f32⟩
  | .hbm, ⟨95, _⟩ => ⟨S2x8x4096x1024, .f32⟩
  | .hbm, ⟨96, _⟩ => ⟨S2x8x4096x1024, .f32⟩
  | .hbm, ⟨97, _⟩ => ⟨S_, .f32⟩
  | .hbm, ⟨98, _⟩ => ⟨S2x8x4096, .f32⟩
  | .hbm, ⟨99, _⟩ => ⟨S2x8x4096x1, .f32⟩
  | .hbm, ⟨100, _⟩ => ⟨S2x8x4096x1, .f32⟩
  | .hbm, ⟨101, _⟩ => ⟨S2x8x4096x1, .f32⟩
  | .hbm, ⟨102, _⟩ => ⟨S2x8x4096x1, .f32⟩
  | .hbm, ⟨103, _⟩ => ⟨S2x8x4096x1024, .f32⟩
  | .hbm, ⟨104, _⟩ => ⟨S2x8x4096x1024, .f32⟩
  | .hbm, ⟨105, _⟩ => ⟨S2x8x4096x1024, .f32⟩
  | .hbm, ⟨106, _⟩ => ⟨S2x8x4096x1, .f32⟩
  | .hbm, ⟨107, _⟩ => ⟨S_, .f32⟩
  | .hbm, ⟨108, _⟩ => ⟨S2x8x4096, .f32⟩
  | .hbm, ⟨109, _⟩ => ⟨S2x8x4096x1, .f32⟩
  | .hbm, ⟨110, _⟩ => ⟨S2x8x4096x1, .f32⟩
  | .hbm, ⟨111, _⟩ => ⟨S2x4096x8x1, .f32⟩
  | .hbm, ⟨112, _⟩ => ⟨S2x4096x8x64, .f32⟩
  | .hbm, ⟨113, _⟩ => ⟨S2x4096x8x64, .f32⟩
  | .hbm, ⟨114, _⟩ => ⟨S2x8x64x4096, .f32⟩
  | .hbm, ⟨115, _⟩ => ⟨S2x4096x8x64, .f32⟩
  | .hbm, ⟨116, _⟩ => ⟨S2x4096x8x64, .f32⟩
  | .hbm, ⟨117, _⟩ => ⟨S2x4096x8x1, .f32⟩
  | .hbm, ⟨118, _⟩ => ⟨S2x4096x8x64, .f32⟩
  | .hbm, ⟨119, _⟩ => ⟨S2x4096x8x64, .f32⟩
  | .hbm, ⟨120, _⟩ => ⟨S2x4096x512, .f32⟩
  | .hbm, ⟨121, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.HeadsKI.lean ====
/-
The kernel's program, rewritten to one short canonical form.

The printed body spells the softmax update of each of the eight heads out in line, in pieces cut at
arbitrary places. Here the update of one head is a function (`headStep`), a state is the eight heads'
running maxima, denominators and accumulators (`St`), and `body_canon` says that the printed body is
the short program `canon`: the handshake, two copies out of the staging block, the local block, the
loop of fourteen trips, the last copy, and the division.
-/
module

public import Idealize.ShloMosaic.PureOps.Ideal
public import proofs.«01_k».proof.Proof.Gen.KernelIdeal.Skeleton

@[expose] public section

noncomputable section

namespace Cert.KernelIdeal.Att

open Idealize.ShloMosaic Idealize.SL.Sem Cert.KernelIdeal.Gen

variable {F : FTy → Type} [FloatOps F] [Named F]

/-- The value a masked score takes, and the running maximum starts from. -/
abbrev neg : F .f32 := Named.named κ "mask" 0xF149F2CA#32

/-- One head's running state: the maximum, the denominator, the accumulator, one row per query. -/
structure HeadSt (F : FTy → Type) where
  /-- the running maximum of the scores -/
  m : FVec F S256x1 .f32
  /-- the running sum of the exponentials -/
  l : FVec F S256x1 .f32
  /-- the running sum of the values, weighted by the exponentials -/
  a : FVec F S256x64 .f32

/-- The masked, scaled scores of one head. -/
def score (neg : F .f32) (mask : IVec S256x256 1) (qh kh : FVec F S256x64 .f32) : FVec F S256x256 .f32 :=
  select mask
    (mulf (matmul dot_S256x64_S256x64_S256x256_1_1_0_0_n_n none qh kh (constant S256x256 .f32 0x00000000#32))
      (broadcast S256x256 (Scalar.ofBits .f32 0x3E000000#32)))
    (broadcast S256x256 neg)

/-- One head's update by one block of keys and values. -/
def headStep (neg : F .f32) (mask : IVec S256x256 1) (o : Fin 2 → ℕ) (ho : S256x512.Slices o S256x64)
    (q k v : FVec F S256x512 .f32) (s : HeadSt F) : HeadSt F :=
  let sc := score neg mask (extractStridedSlice S256x64 o q ho) (extractStridedSlice S256x64 o k ho)
  let m' := maximumf s.m (shapeCast S256x1
    (multiReduction .maximumf [1] S256 sc 0xFF800000#32 reduces_S256x256_S256 (.inl rfl) rfl) shapeCasts_S256_S256x1)
  let al := exp (subf s.m m')
  let p := exp (subf sc (broadcastTo S256x256 m' broadcasts_S256x1_S256x256))
  { m := m'
    l := addf (mulf s.l al) (shapeCast S256x1
      (multiReduction .add [1] S256 p 0x00000000#32 reduces_S256x256_S256 (.inl rfl) rfl) shapeCasts_S256_S256x1)
    a := addf (mulf s.a (broadcastTo S256x64 al broadcasts_S256x1_S256x64))
      (matmul dot_S256x256_S256x64_S256x64_1_0_0_1_n_n none p (extractStridedSlice S256x64 o v ho)
        (constant S256x64 .f32 0x00000000#32)) }

/-- The states of the eight heads. -/
structure St (F : FTy → Type) where
  /-- head 0 -/
  h0 : HeadSt F
  /-- head 1 -/
  h1 : HeadSt F
  /-- head 2 -/
  h2 : HeadSt F
  /-- head 3 -/
  h3 : HeadSt F
  /-- head 4 -/
  h4 : HeadSt F
  /-- head 5 -/
  h5 : HeadSt F
  /-- head 6 -/
  h6 : HeadSt F
  /-- head 7 -/
  h7 : HeadSt F

/-- All eight heads take one block of keys and values. -/
def consume (neg : F .f32) (mask : IVec S256x256 1) (q k v : FVec F S256x512 .f32) (s : St F) : St F where
  h0 := headStep neg mask ![0, 0] slices_S256x512_o0_0_S256x64 q k v s.h0
  h1 := headStep neg mask ![0, 64] slices_S256x512_o0_64_S256x64 q k v s.h1
  h2 := headStep neg mask ![0, 128] slices_S256x512_o0_128_S256x64 q k v s.h2
  h3 := headStep neg mask ![0, 192] slices_S256x512_o0_192_S256x64 q k v s.h3
  h4 := headStep neg mask ![0, 256] slices_S256x512_o0_256_S256x64 q k v s.h4
  h5 := headStep neg mask ![0, 320] slices_S256x512_o0_320_S256x64 q k v s.h5
  h6 := headStep neg mask ![0, 384] slices_S256x512_o0_384_S256x64 q k v s.h6
  h7 := headStep neg mask ![0, 448] slices_S256x512_o0_448_S256x64 q k v s.h7

/-- The state before any block. -/
def headInit (neg : F .f32) : HeadSt F where
  m := broadcast S256x1 neg
  l := broadcast S256x1 (Scalar.ofBits .f32 0x00000000#32)
  a := broadcast S256x64 (Scalar.ofBits .f32 0x00000000#32)

/-- Every head before any block. -/
def initSt (neg : F .f32) : St F :=
  ⟨headInit neg, headInit neg, headInit neg, headInit neg, headInit neg, headInit neg, headInit neg, headInit neg⟩

/-- The state as the loop carries it. -/
abbrev StTup (F : FTy → Type) : Type :=
  FVec F S256x1 .f32 × FVec F S256x1 .f32 × FVec F S256x64 .f32 ×
  FVec F S256x1 .f32 × FVec F S256x1 .f32 × FVec F S256x64 .f32 ×
  FVec F S256x1 .f32 × FVec F S256x1 .f32 × FVec F S256x64 .f32 ×
  FVec F S256x1 .f32 × FVec F S256x1 .f32 × FVec F S256x64 .f32 ×
  FVec F S256x1 .f32 × FVec F S256x1 .f32 × FVec F S256x64 .f32 ×
  FVec F S256x1 .f32 × FVec F S256x1 .f32 × FVec F S256x64 .f32 ×
  FVec F S256x1 .f32 × FVec F S256x1 .f32 × FVec F S256x64 .f32 ×
  FVec F S256x1 .f32 × FVec F S256x1 .f32 × FVec F S256x64 .f32

/-- The state as the loop carries it. -/
def St.tup (s : St F) : StTup F :=
  (s.h0.m, s.h0.l, s.h0.a, s.h1.m, s.h1.l, s.h1.a, s.h2.m, s.h2.l, s.h2.a, s.h3.m, s.h3.l, s.h3.a,
   s.h4.m, s.h4.l, s.h4.a, s.h5.m, s.h5.l, s.h5.a, s.h6.m, s.h6.l, s.h6.a, s.h7.m, s.h7.l, s.h7.a)

/-- The state a carried tuple stands for. -/
def St.ofTup : StTup F → St F
  | (m0, l0, a0, m1, l1, a1, m2, l2, a2, m3, l3, a3, m4, l4, a4, m5, l5, a5, m6, l6, a6, m7, l7, a7) =>
    ⟨⟨m0, l0, a0⟩, ⟨m1, l1, a1⟩, ⟨m2, l2, a2⟩, ⟨m3, l3, a3⟩, ⟨m4, l4, a4⟩, ⟨m5, l5, a5⟩, ⟨m6, l6, a6⟩, ⟨m7, l7, a7⟩⟩

/-- Packing and unpacking a state changes nothing. -/
theorem St.ofTup_tup (s : St F) : St.ofTup s.tup = s := rfl

/-- One head's quotient. -/
def headOut (s : HeadSt F) : FVec F S256x64 .f32 :=
  divf s.a (broadcastTo S256x64 s.l broadcasts_S256x1_S256x64)

/-- The block the kernel stores: the eight quotients side by side, times the output weights. -/
def outBlock (s : St F) (wo : Vec F S512x512 .f32) : FVec F S256x512 .f32 :=
  matmul dot_S256x512_S512x512_S256x512_1_0_0_1_n_n none
    (concatenate S256x512 1 [⟨S256x64, headOut s.h0⟩, ⟨S256x64, headOut s.h1⟩, ⟨S256x64, headOut s.h2⟩,
      ⟨S256x64, headOut s.h3⟩, ⟨S256x64, headOut s.h4⟩, ⟨S256x64, headOut s.h5⟩, ⟨S256x64, headOut s.h6⟩,
      ⟨S256x64, headOut s.h7⟩] concatenates_S256x64_S256x64_S256x64_S256x64_S256x64_S256x64_S256x64_S256x64_S256x512_d1)
    (shapeCast S512x512 wo shapeCasts_S512x512_S512x512) (constant S256x512 .f32 0x00000000#32)

/-- The queries. -/
def queries (x : Vec F S256x512 .f32) (wq : Vec F S512x512 .f32) : FVec F S256x512 .f32 :=
  matmul dot_S256x512_S512x512_S256x512_1_0_0_1_n_n none
    (shapeCast S256x512 x shapeCasts_S256x512_S256x512) (shapeCast S512x512 wq shapeCasts_S512x512_S512x512)
    (constant S256x512 .f32 0x00000000#32)

/-- A slab of the staging block, as a matrix. -/
abbrev flat3 (v : Vec F S1x256x512 .f32) : FVec F S256x512 .f32 :=
  shapeCast S256x512 v shapeCasts_S1x256x512_S256x512

/-- A slab of a communication slot, as a matrix. -/
abbrev flat4 (v : Vec F S1x1x256x512 .f32) : FVec F S256x512 .f32 :=
  shapeCast S256x512 v shapeCasts_S1x1x256x512_S256x512

/-- One slot of a communication buffer, as the copies address it. -/
abbrev slotAt (m : Memref sig .tc .vmem S4x2x256x512 .f32) (off : Fin 4 → ℕ)
    (h : ∀ a, off a + S1x2x256x512.size a ≤ S4x2x256x512.size a) : Memref sig .tc .vmem S2x256x512 .f32 :=
  (m.slice (Rect.unit (s := S4x2x256x512) off S1x2x256x512.size h) (fun _ => rfl)).squeeze S2x256x512
    squeezes_S1x2x256x512_S2x256x512

/-- One semaphore of an array of four. -/
abbrev semAt (a : DmaSems sig S4) (off : Fin 1 → ℕ) (h : ∀ a, off a + S1.size a ≤ S4.size a) : DmaSem sig :=
  ((a.slice (Rect.unit (s := S4) off S1.size h)).squeeze S_ squeezes_S1_S_).sem

/-- A slab load from a communication buffer. -/
abbrev slabLoad (m : Memref sig .tc .vmem S4x2x256x512 .f32) (off : Fin 4 → ℕ)
    (h : ∀ a, off a + S1x1x256x512.size a ≤ S4x2x256x512.size a) :
    Prog (TpuEff nD τ sig (Elt F) Λ₀ .tc) (Vec F S1x1x256x512 .f32) :=
  Prog.lift (.load m (Rect.unit (s := S4x2x256x512) off S1x1x256x512.size h).toLoadRect (View.loadsAt_vmem h_S1x1x256x512))

/-- A copy of one slot to a slot of another device's buffer. -/
abbrev slotCopy (m : Memref sig .tc .vmem S4x2x256x512 .f32) (o5 o4 : Fin 4 → ℕ)
    (h5 : ∀ a, o5 a + S1x2x256x512.size a ≤ S4x2x256x512.size a)
    (h4 : ∀ a, o4 a + S1x2x256x512.size a ≤ S4x2x256x512.size a)
    (d : Dev nD) (s r : DmaSem sig) : Prog (TpuEff nD τ sig (Elt F) Λ₀ .tc) Unit :=
  Prog.lift (.enqueueDma (slotAt m o5 h5) (.remote (Dev.tc d) (slotAt m o4 h4) (.dma s)) (.dma r)
    ((View.wordExact_bits rfl).reshape _ _) ((View.wordExact_bits rfl).reshape _ _) ⟨⟨rfl, Or.inl rfl⟩, trivial⟩)

/-- A wait for a copy between two slots. -/
abbrev slotWait (m : Memref sig .tc .vmem S4x2x256x512 .f32) (o o' : Fin 4 → ℕ)
    (h : ∀ a, o a + S1x2x256x512.size a ≤ S4x2x256x512.size a)
    (h' : ∀ a, o' a + S1x2x256x512.size a ≤ S4x2x256x512.size a) (s : DmaSem sig) :
    Prog (TpuEff nD τ sig (Elt F) Λ₀ .tc) Unit :=
  Prog.lift (.waitDma2 s (slotAt m o h) (slotAt m o' h')
    ((View.wordExact_bits rfl).reshape _ _) ((View.wordExact_bits rfl).reshape _ _))

section
variable (arg0 : Memref sig .tc .smem S32 .i32) (harg0 : arg0.IsWhole) (arg1 : Memref sig .tc .smem S32 .i32) (harg1 : arg1.IsWhole)
  (arg2 : Memref sig .tc .vmem S256x512 .f32) (harg2 : arg2.IsWhole) (arg3 : Memref sig .tc .vmem S512x512 .f32) (harg3 : arg3.IsWhole)
  (arg4 : Memref sig .tc .vmem S512x512 .f32) (harg4 : arg4.IsWhole) (arg5 : Memref sig .tc .vmem S2x256x512 .f32) (harg5 : arg5.IsWhole)
  (arg6 : Memref sig .tc .vmem S256x512 .f32) (harg6 : arg6.IsWhole) (arg7 : Memref sig .tc .vmem S4x2x256x512 .f32) (harg7 : arg7.IsWhole)
  (arg8 : Memref sig .tc .vmem S4x2x256x512 .f32) (harg8 : arg8.IsWhole) (arg9 : DmaSems sig S4) (arg10 : DmaSems sig S4)
  (arg11 : DmaSems sig S4) (arg12 : DmaSems sig S4)

/-- One trip of the loop: both copies out, both held blocks taken in, the four waits. -/
def trip (v4 : BitVec 32) (hw2 : k0_chk2 v4) (v6 : BitVec 32) (hw1 : k0_chk1 v6) (mask : IVec S256x256 1)
    (q : FVec F S256x512 .f32) (t : Fin k0_t1_loop.trips) (s : St F) :
    Prog (TpuEff nD τ sig (Elt F) Λ₀ .tc) (StTup F) := do
  slotCopy arg7 (k0_off5 t) (k0_off4 t) (k0_off5_inb t) (k0_off4_inb t) ⟨k0_dev5 v4, k0_dev5_lt v4 hw2⟩
    (semAt arg9 (k0_off2 t) (k0_off2_inb t)) (semAt arg10 (k0_off3 t) (k0_off3_inb t))
  slotCopy arg8 (k0_off5 t) (k0_off4 t) (k0_off5_inb t) (k0_off4_inb t) ⟨k0_dev6 v6, k0_dev6_lt v6 hw1⟩
    (semAt arg11 (k0_off2 t) (k0_off2_inb t)) (semAt arg12 (k0_off3 t) (k0_off3_inb t))
  let kr ← slabLoad arg7 (k0_off6 t) (k0_off6_inb t)
  let vr ← slabLoad arg7 (k0_off7 t) (k0_off7_inb t)
  let kl ← slabLoad arg8 (k0_off6 t) (k0_off6_inb t)
  let vl ← slabLoad arg8 (k0_off7 t) (k0_off7_inb t)
  slotWait arg7 (k0_off4 t) (k0_off5 t) (k0_off4_inb t) (k0_off5_inb t) (semAt arg9 (k0_off2 t) (k0_off2_inb t))
  slotWait arg7 (k0_off5 t) (k0_off4 t) (k0_off5_inb t) (k0_off4_inb t) (semAt arg10 (k0_off3 t) (k0_off3_inb t))
  slotWait arg8 (k0_off4 t) (k0_off5 t) (k0_off4_inb t) (k0_off5_inb t) (semAt arg11 (k0_off2 t) (k0_off2_inb t))
  slotWait arg8 (k0_off5 t) (k0_off4 t) (k0_off5_inb t) (k0_off4_inb t) (semAt arg12 (k0_off3 t) (k0_off3_inb t))
  pure (consume neg mask q (flat4 kl) (flat4 vl) (consume neg mask q (flat4 kr) (flat4 vr) s)).tup

set_option maxRecDepth 65536 in
set_option maxHeartbeats 4000000 in
/-- The printed trip is the short one. -/
theorem trip_canon (v4 : BitVec 32) (hw2 : k0_chk2 v4) (v6 : BitVec 32) (hw1 : k0_chk1 v6) (mask : IVec S256x256 1)
    (q : FVec F S256x512 .f32)
    (v79 v88 : FVec F S256x1 .f32) (v92 : FVec F S256x64 .f32) (v103 v112 : FVec F S256x1 .f32) (v116 : FVec F S256x64 .f32)
    (v127 v136 : FVec F S256x1 .f32) (v140 : FVec F S256x64 .f32) (v151 v160 : FVec F S256x1 .f32) (v164 : FVec F S256x64 .f32)
    (v175 v184 : FVec F S256x1 .f32) (v188 : FVec F S256x64 .f32) (v199 v208 : FVec F S256x1 .f32) (v212 : FVec F S256x64 .f32)
    (v223 v232 : FVec F S256x1 .f32) (v236 : FVec F S256x64 .f32) (v247 v256 : FVec F S256x1 .f32) (v260 : FVec F S256x64 .f32)
    (t : Fin k0_t1_loop.trips) (s : St F) :
    k0_t1_body arg0 harg0 arg1 harg1 arg2 harg2 arg3 harg3 arg4 harg4 arg5 harg5 arg6 harg6 arg7 harg7 arg8 harg8 arg9 arg10
        arg11 arg12 v4 hw2 v6 hw1 mask q v79 v88 v92 v103 v112 v116 v127 v136 v140 v151 v160 v164 v175 v184 v188 v199 v208 v212
        v223 v232 v236 v247 v256 v260 t s.tup
      = trip arg7 arg8 arg9 arg10 arg11 arg12 v4 hw2 v6 hw1 mask q t s := rfl

/-- The copy out of the staging block. -/
abbrev stageCopy (m : Memref sig .tc .vmem S4x2x256x512 .f32) (d : Dev nD) (s r : DmaSem sig) :
    Prog (TpuEff nD τ sig (Elt F) Λ₀ .tc) Unit :=
  Prog.lift (.enqueueDma arg5 (.remote (Dev.tc d) (slotAt m ![1, 0, 0, 0] inb_S4x2x256x512_S1x2x256x512_1_0_0_0) (.dma s)) (.dma r)
    harg5.wordExact ((View.wordExact_bits rfl).reshape _ _) ⟨⟨rfl, Or.inl rfl⟩, trivial⟩)

/-- The wait for a copy out of the staging block to have left. -/
abbrev stageWaitS (m : Memref sig .tc .vmem S4x2x256x512 .f32) (s : DmaSem sig) :
    Prog (TpuEff nD τ sig (Elt F) Λ₀ .tc) Unit :=
  Prog.lift (.waitDma2 s (slotAt m ![1, 0, 0, 0] inb_S4x2x256x512_S1x2x256x512_1_0_0_0) arg5
    ((View.wordExact_bits rfl).reshape _ _) harg5.wordExact)

/-- The wait for the neighbour's staging block to have arrived. -/
abbrev stageWaitR (m : Memref sig .tc .vmem S4x2x256x512 .f32) (s : DmaSem sig) :
    Prog (TpuEff nD τ sig (Elt F) Λ₀ .tc) Unit :=
  Prog.lift (.waitDma2 s arg5 (slotAt m ![1, 0, 0, 0] inb_S4x2x256x512_S1x2x256x512_1_0_0_0)
    harg5.wordExact ((View.wordExact_bits rfl).reshape _ _))

/-- After the loop: the last copy, the blocks in slot 3, the last block, the division. -/
def tail (v4 : BitVec 32) (hw2 : k0_chk2 v4) (mask : IVec S256x256 1) (q : FVec F S256x512 .f32) (s : St F) :
    Prog (TpuEff nD τ sig (Elt F) Λ₀ .tc) PUnit := do
  slotCopy arg7 (k0_off9 15#32) (k0_off9 16#32) (k0_off9_inb 0) (k0_off9_inb 1) ⟨k0_dev7 v4, k0_dev7_lt v4 hw2⟩
    (semAt arg9 (k0_off8 15#32) (k0_off8_inb 0)) (semAt arg10 (k0_off8 16#32) (k0_off8_inb 1))
  let kr ← slabLoad arg7 ![3, 0, 0, 0] inb_S4x2x256x512_S1x1x256x512_3_0_0_0
  let vr ← slabLoad arg7 ![3, 1, 0, 0] inb_S4x2x256x512_S1x1x256x512_3_1_0_0
  let kl ← slabLoad arg8 ![3, 0, 0, 0] inb_S4x2x256x512_S1x1x256x512_3_0_0_0
  let vl ← slabLoad arg8 ![3, 1, 0, 0] inb_S4x2x256x512_S1x1x256x512_3_1_0_0
  slotWait arg7 (k0_off9 16#32) (k0_off9 15#32) (k0_off9_inb 1) (k0_off9_inb 0) (semAt arg9 (k0_off8 15#32) (k0_off8_inb 0))
  slotWait arg7 (k0_off9 15#32) (k0_off9 16#32) (k0_off9_inb 0) (k0_off9_inb 1) (semAt arg10 (k0_off8 16#32) (k0_off8_inb 1))
  let kf ← slabLoad arg7 ![0, 0, 0, 0] inb_S4x2x256x512_S1x1x256x512_0_0_0_0
  let vf ← slabLoad arg7 ![0, 1, 0, 0] inb_S4x2x256x512_S1x1x256x512_0_1_0_0
  let wo : Vec F S512x512 .f32 ← Prog.lift (.load arg4 (Rect.unit (s := S512x512) ![0, 0] S512x512.size inb_S512x512_S512x512_0_0).toLoadRect (View.loadsAt_vmem h_S512x512))
  let _ : Vec F S256x512 .f32 ← Prog.lift (.load arg6 (Rect.unit (s := S256x512) ![0, 0] S256x512.size inb_S256x512_S256x512_0_0).toLoadRect (View.loadsAt_vmem h_S256x512))
  Prog.lift (.store arg6 (Rect.unit (s := S256x512) ![0, 0] S256x512.size inb_S256x512_S256x512_0_0)
    (outBlock (consume neg mask q (flat4 kf) (flat4 vf)
      (consume neg mask q (flat4 kl) (flat4 vl) (consume neg mask q (flat4 kr) (flat4 vr) s))) wo)
    Finset.univ (View.stores_vmem_bits_univ h_S256x512 rfl) (.inl rfl))
  pure ⟨⟩

/-- What follows the loop as printed, up to the loads of slot 3: the state and the two slabs. -/
def mid (v4 : BitVec 32) (hw2 : k0_chk2 v4) (r : StTup F) :
    Prog (TpuEff nD τ sig (Elt F) Λ₀ .tc) (Σ' (v282_0 : FVec F S256x1 .f32) (v282_1 : FVec F S256x1 .f32) (v282_2 : FVec F S256x64 .f32) (v282_3 : FVec F S256x1 .f32) (v282_4 : FVec F S256x1 .f32) (v282_5 : FVec F S256x64 .f32) (v282_6 : FVec F S256x1 .f32) (v282_7 : FVec F S256x1 .f32) (v282_8 : FVec F S256x64 .f32) (v282_9 : FVec F S256x1 .f32) (v282_10 : FVec F S256x1 .f32) (v282_11 : FVec F S256x64 .f32) (v282_12 : FVec F S256x1 .f32) (v282_13 : FVec F S256x1 .f32) (v282_14 : FVec F S256x64 .f32) (v282_15 : FVec F S256x1 .f32) (v282_16 : FVec F S256x1 .f32) (v282_17 : FVec F S256x64 .f32) (v282_18 : FVec F S256x1 .f32) (v282_19 : FVec F S256x1 .f32) (v282_20 : FVec F S256x64 .f32) (v282_21 : FVec F S256x1 .f32) (v282_22 : FVec F S256x1 .f32) (v282_23 : FVec F S256x64 .f32) (v297 : FVec F S256x512 .f32), Vec F S1x1x256x512 .f32) :=
  match r with
  | (v282_0, v282_1, v282_2, v282_3, v282_4, v282_5, v282_6, v282_7, v282_8, v282_9, v282_10, v282_11, v282_12, v282_13, v282_14, v282_15, v282_16, v282_17, v282_18, v282_19, v282_20, v282_21, v282_22, v282_23) => do
    slotCopy arg7 (k0_off9 15#32) (k0_off9 16#32) (k0_off9_inb 0) (k0_off9_inb 1) ⟨k0_dev7 v4, k0_dev7_lt v4 hw2⟩
      (semAt arg9 (k0_off8 15#32) (k0_off8_inb 0)) (semAt arg10 (k0_off8 16#32) (k0_off8_inb 1))
    let kr ← slabLoad arg7 ![3, 0, 0, 0] inb_S4x2x256x512_S1x1x256x512_3_0_0_0
    let vr ← slabLoad arg7 ![3, 1, 0, 0] inb_S4x2x256x512_S1x1x256x512_3_1_0_0
    pure ⟨v282_0, v282_1, v282_2, v282_3, v282_4, v282_5, v282_6, v282_7, v282_8, v282_9, v282_10, v282_11, v282_12, v282_13, v282_14, v282_15, v282_16, v282_17, v282_18, v282_19, v282_20, v282_21, v282_22, v282_23, k0_pay198 kr, vr⟩

/-- The rest of the printed body. -/
def fin (v4 : BitVec 32) (v19 : IVec S256x256 1) (v64 : FVec F S256x512 .f32)
    (p : Σ' (v282_0 : FVec F S256x1 .f32) (v282_1 : FVec F S256x1 .f32) (v282_2 : FVec F S256x64 .f32) (v282_3 : FVec F S256x1 .f32) (v282_4 : FVec F S256x1 .f32) (v282_5 : FVec F S256x64 .f32) (v282_6 : FVec F S256x1 .f32) (v282_7 : FVec F S256x1 .f32) (v282_8 : FVec F S256x64 .f32) (v282_9 : FVec F S256x1 .f32) (v282_10 : FVec F S256x1 .f32) (v282_11 : FVec F S256x64 .f32) (v282_12 : FVec F S256x1 .f32) (v282_13 : FVec F S256x1 .f32) (v282_14 : FVec F S256x64 .f32) (v282_15 : FVec F S256x1 .f32) (v282_16 : FVec F S256x1 .f32) (v282_17 : FVec F S256x64 .f32) (v282_18 : FVec F S256x1 .f32) (v282_19 : FVec F S256x1 .f32) (v282_20 : FVec F S256x64 .f32) (v282_21 : FVec F S256x1 .f32) (v282_22 : FVec F S256x1 .f32) (v282_23 : FVec F S256x64 .f32) (v297 : FVec F S256x512 .f32), Vec F S1x1x256x512 .f32) :
    Prog (TpuEff nD τ sig (Elt F) Λ₀ .tc) PUnit :=
  match p with
  | ⟨v282_0, v282_1, v282_2, v282_3, v282_4, v282_5, v282_6, v282_7, v282_8, v282_9, v282_10, v282_11, v282_12, v282_13, v282_14, v282_15, v282_16, v282_17, v282_18, v282_19, v282_20, v282_21, v282_22, v282_23, v297, v298⟩ => do
    let ⟨v299, v310, v319, v323, v334, v343, v345, v346⟩ : Σ' (v299 : FVec F S256x512 .f32) (v310 : FVec F S256x1 .f32) (v319 : FVec F S256x1 .f32) (v323 : FVec F S256x64 .f32) (v334 : FVec F S256x1 .f32) (v343 : FVec F S256x1 .f32) (v345 : FVec F S256x64 .f32), FVec F S256x64 .f32 ← k0_part19 arg0 harg0 arg1 harg1 arg2 harg2 arg3 harg3 arg4 harg4 arg5 harg5 arg6 harg6 arg7 harg7 arg8 harg8 arg9 arg10 arg11 arg12 v19 v64 v282_0 v282_1 v282_2 v282_3 v282_4 v282_5 v297 v298
    let ⟨v347, v358, v367, v371, v382, v391, v393, v394⟩ : Σ' (v347 : FVec F S256x64 .f32) (v358 : FVec F S256x1 .f32) (v367 : FVec F S256x1 .f32) (v371 : FVec F S256x64 .f32) (v382 : FVec F S256x1 .f32) (v391 : FVec F S256x1 .f32) (v393 : FVec F S256x64 .f32), FVec F S256x64 .f32 ← k0_part20 arg0 harg0 arg1 harg1 arg2 harg2 arg3 harg3 arg4 harg4 arg5 harg5 arg6 harg6 arg7 harg7 arg8 harg8 arg9 arg10 arg11 arg12 v19 v64 v282_6 v282_7 v282_8 v282_9 v282_10 v282_11 v297 v299 v345 v346
    let ⟨v395, v406, v415, v419, v430, v439, v441, v442⟩ : Σ' (v395 : FVec F S256x64 .f32) (v406 : FVec F S256x1 .f32) (v415 : FVec F S256x1 .f32) (v419 : FVec F S256x64 .f32) (v430 : FVec F S256x1 .f32) (v439 : FVec F S256x1 .f32) (v441 : FVec F S256x64 .f32), FVec F S256x64 .f32 ← k0_part21 arg0 harg0 arg1 harg1 arg2 harg2 arg3 harg3 arg4 harg4 arg5 harg5 arg6 harg6 arg7 harg7 arg8 harg8 arg9 arg10 arg11 arg12 v19 v64 v282_12 v282_13 v282_14 v282_15 v282_16 v282_17 v297 v299 v393 v394
    let ⟨v443, v454, v463, v467, v478, v487, v489, v490⟩ : Σ' (v443 : FVec F S256x64 .f32) (v454 : FVec F S256x1 .f32) (v463 : FVec F S256x1 .f32) (v467 : FVec F S256x64 .f32) (v478 : FVec F S256x1 .f32) (v487 : FVec F S256x1 .f32) (v489 : FVec F S256x64 .f32), FVec F S256x64 .f32 ← k0_part22 arg0 harg0 arg1 harg1 arg2 harg2 arg3 harg3 arg4 harg4 arg5 harg5 arg6 harg6 arg7 harg7 arg8 harg8 arg9 arg10 arg11 arg12 v19 v64 v282_18 v282_19 v282_20 v282_21 v282_22 v282_23 v297 v299 v441 v442
    let ⟨v491, v493, v495, v506, v515, v519, v522, v527, v530, v532⟩ : Σ' (v491 : FVec F S256x64 .f32) (v493 : FVec F S256x512 .f32) (v495 : FVec F S256x512 .f32) (v506 : FVec F S256x1 .f32) (v515 : FVec F S256x1 .f32) (v519 : FVec F S256x64 .f32) (v522 : FVec F S256x64 .f32) (v527 : FVec F S256x256 .f32) (v530 : FVec F S256x1 .f32), FVec F S256x1 .f32 ← k0_part23 arg0 harg0 arg1 harg1 arg2 harg2 arg3 harg3 arg4 harg4 arg5 harg5 arg6 harg6 arg7 harg7 arg8 harg8 arg9 arg10 arg11 arg12 v19 v64 v310 v319 v323 v334 v489 v490
    let ⟨v539, v543, v554, v563, v567, v570, v575, v578, v580⟩ : Σ' (v539 : FVec F S256x1 .f32) (v543 : FVec F S256x64 .f32) (v554 : FVec F S256x1 .f32) (v563 : FVec F S256x1 .f32) (v567 : FVec F S256x64 .f32) (v570 : FVec F S256x64 .f32) (v575 : FVec F S256x256 .f32) (v578 : FVec F S256x1 .f32), FVec F S256x1 .f32 ← k0_part24 arg0 harg0 arg1 harg1 arg2 harg2 arg3 harg3 arg4 harg4 arg5 harg5 arg6 harg6 arg7 harg7 arg8 harg8 arg9 arg10 arg11 arg12 v19 v64 v343 v347 v358 v367 v371 v382 v493 v495 v522 v527 v530 v532
    let ⟨v587, v591, v602, v611, v615, v618, v623, v626, v628⟩ : Σ' (v587 : FVec F S256x1 .f32) (v591 : FVec F S256x64 .f32) (v602 : FVec F S256x1 .f32) (v611 : FVec F S256x1 .f32) (v615 : FVec F S256x64 .f32) (v618 : FVec F S256x64 .f32) (v623 : FVec F S256x256 .f32) (v626 : FVec F S256x1 .f32), FVec F S256x1 .f32 ← k0_part25 arg0 harg0 arg1 harg1 arg2 harg2 arg3 harg3 arg4 harg4 arg5 harg5 arg6 harg6 arg7 harg7 arg8 harg8 arg9 arg10 arg11 arg12 v19 v64 v391 v395 v406 v415 v419 v430 v493 v495 v570 v575 v578 v580
    let ⟨v635, v639, v650, v659, v663, v666, v671, v674, v676⟩ : Σ' (v635 : FVec F S256x1 .f32) (v639 : FVec F S256x64 .f32) (v650 : FVec F S256x1 .f32) (v659 : FVec F S256x1 .f32) (v663 : FVec F S256x64 .f32) (v666 : FVec F S256x64 .f32) (v671 : FVec F S256x256 .f32) (v674 : FVec F S256x1 .f32), FVec F S256x1 .f32 ← k0_part26 arg0 harg0 arg1 harg1 arg2 harg2 arg3 harg3 arg4 harg4 arg5 harg5 arg6 harg6 arg7 harg7 arg8 harg8 arg9 arg10 arg11 arg12 v19 v64 v439 v443 v454 v463 v467 v478 v493 v495 v618 v623 v626 v628
    let ⟨v683, v687, v703, v705, v706, v707, v708, cst_281⟩ : Σ' (v683 : FVec F S256x1 .f32) (v687 : FVec F S256x64 .f32) (v703 : FVec F S256x512 .f32) (v705 : FVec F S256x512 .f32) (v706 : FVec F S256x64 .f32) (v707 : FVec F S256x64 .f32) (v708 : FVec F S256x64 .f32), FVec F S256x256 .f32 ← k0_part27 arg0 harg0 arg1 harg1 arg2 harg2 arg3 harg3 arg4 harg4 arg5 harg5 arg6 harg6 arg7 harg7 arg8 harg8 arg9 arg10 arg11 arg12 v4 v64 v487 v491 v666 v671 v674 v676
    let ⟨v725, v729, v749, v753, v754, v755, v756, cst_293⟩ : Σ' (v725 : FVec F S256x1 .f32) (v729 : FVec F S256x64 .f32) (v749 : FVec F S256x1 .f32) (v753 : FVec F S256x64 .f32) (v754 : FVec F S256x64 .f32) (v755 : FVec F S256x64 .f32) (v756 : FVec F S256x64 .f32), FVec F S256x256 .f32 ← k0_part28 arg0 harg0 arg1 harg1 arg2 harg2 arg3 harg3 arg4 harg4 arg5 harg5 arg6 harg6 arg7 harg7 arg8 harg8 arg9 arg10 arg11 arg12 v19 v64 v506 v515 v519 v530 v539 v543 v703 v705 v706 v707 v708 cst_281
    let ⟨v773, v777, v797, v801, v802, v803, v804, cst_305⟩ : Σ' (v773 : FVec F S256x1 .f32) (v777 : FVec F S256x64 .f32) (v797 : FVec F S256x1 .f32) (v801 : FVec F S256x64 .f32) (v802 : FVec F S256x64 .f32) (v803 : FVec F S256x64 .f32) (v804 : FVec F S256x64 .f32), FVec F S256x256 .f32 ← k0_part29 arg0 harg0 arg1 harg1 arg2 harg2 arg3 harg3 arg4 harg4 arg5 harg5 arg6 harg6 arg7 harg7 arg8 harg8 arg9 arg10 arg11 arg12 v19 v64 v554 v563 v567 v578 v587 v591 v703 v705 v754 v755 v756 cst_293
    let ⟨v821, v825, v845, v849, v850, v851, v852, cst_317⟩ : Σ' (v821 : FVec F S256x1 .f32) (v825 : FVec F S256x64 .f32) (v845 : FVec F S256x1 .f32) (v849 : FVec F S256x64 .f32) (v850 : FVec F S256x64 .f32) (v851 : FVec F S256x64 .f32) (v852 : FVec F S256x64 .f32), FVec F S256x256 .f32 ← k0_part30 arg0 harg0 arg1 harg1 arg2 harg2 arg3 harg3 arg4 harg4 arg5 harg5 arg6 harg6 arg7 harg7 arg8 harg8 arg9 arg10 arg11 arg12 v19 v64 v602 v611 v615 v626 v635 v639 v703 v705 v802 v803 v804 cst_305
    let ⟨v869, v873, v893, v897, v899, v901⟩ : Σ' (v869 : FVec F S256x1 .f32) (v873 : FVec F S256x64 .f32) (v893 : FVec F S256x1 .f32) (v897 : FVec F S256x64 .f32) (v899 : FVec F S256x64 .f32), FVec F S256x64 .f32 ← k0_part31 arg0 harg0 arg1 harg1 arg2 harg2 arg3 harg3 arg4 harg4 arg5 harg5 arg6 harg6 arg7 harg7 arg8 harg8 arg9 arg10 arg11 arg12 v19 v64 v650 v659 v663 v674 v683 v687 v703 v705 v725 v729 v749 v753 v850 v851 v852 cst_317
    let v915 : Vec F S512x512 .f32 ← Prog.lift (.load arg4 (Rect.unit (s := S512x512) ![0, 0] S512x512.size inb_S512x512_S512x512_0_0).toLoadRect (View.loadsAt_vmem h_S512x512))
    let v918 : Vec F S256x512 .f32 ← Prog.lift (.load arg6 (Rect.unit (s := S256x512) ![0, 0] S256x512.size inb_S256x512_S256x512_0_0).toLoadRect (View.loadsAt_vmem h_S256x512))
    Prog.lift (.store arg6 (Rect.unit (s := S256x512) ![0, 0] S256x512.size inb_S256x512_S256x512_0_0) (k0_pay1 v773 v777 v797 v801 v821 v825 v845 v849 v869 v873 v893 v897 v899 v901 v915) Finset.univ (View.stores_vmem_bits_univ h_S256x512 rfl) (.inl rfl))
    pure ⟨⟩

/-- The whole body up to the loop, short; `G` is what follows, given the devices, the queries and the state. -/
def canonPre (G : ∀ (v4 : BitVec 32) (_ : k0_chk2 v4) (v6 : BitVec 32) (_ : k0_chk1 v6), FVec F S256x512 .f32 → St F →
      Prog (TpuEff nD τ sig (Elt F) Λ₀ .tc) PUnit) : Prog (TpuEff nD τ sig (Elt F) Λ₀ .tc) PUnit := do
  let d0 : Dev nD ← Prog.lift .deviceId
  let v4 : Elt F .i32 ← smemLoad arg0 (Rect.unit (s := S32) (k0_off1 d0) S1.size (k0_off1_inb d0)) numel1_S1 rfl
  have hw2 : k0_chk2 v4 := (← Prog.lift (TpuEff.assume (k0_chk2 v4) (k0_chk2.dec v4))).down
  let v6 : Elt F .i32 ← smemLoad arg1 (Rect.unit (s := S32) (k0_off1 d0) S1.size (k0_off1_inb d0)) numel1_S1 rfl
  have hw1 : k0_chk1 v6 := (← Prog.lift (TpuEff.assume (k0_chk1 v6) (k0_chk1.dec v6))).down
  semSignalWord (⟨k0_dev1 v6, k0_dev1_lt v6 hw1⟩ : Dev nD) (SemArray.scalar (sig.barrier 0 rfl) : Sems sig S_).sem 1#32
  semSignalWord (⟨k0_dev2 v4, k0_dev2_lt v4 hw2⟩ : Dev nD) (SemArray.scalar (sig.barrier 0 rfl) : Sems sig S_).sem 1#32
  semWaitWord (SemArray.scalar (sig.barrier 0 rfl) : Sems sig S_).sem 2#32
  stageCopy arg5 harg5 arg7 ⟨k0_dev3 v4, k0_dev3_lt v4 hw2⟩ (semAt arg9 ![0] inb_S4_S1_0) (semAt arg10 ![1] inb_S4_S1_1)
  stageCopy arg5 harg5 arg8 ⟨k0_dev4 v6, k0_dev4_lt v6 hw1⟩ (semAt arg11 ![0] inb_S4_S1_0) (semAt arg12 ![1] inb_S4_S1_1)
  let x : Vec F S256x512 .f32 ← Prog.lift (.load arg2 (Rect.unit (s := S256x512) ![0, 0] S256x512.size inb_S256x512_S256x512_0_0).toLoadRect (View.loadsAt_vmem h_S256x512))
  let wq : Vec F S512x512 .f32 ← Prog.lift (.load arg3 (Rect.unit (s := S512x512) ![0, 0] S512x512.size inb_S512x512_S512x512_0_0).toLoadRect (View.loadsAt_vmem h_S512x512))
  let k : Vec F S1x256x512 .f32 ← Prog.lift (.load arg5 (Rect.unit (s := S2x256x512) ![0, 0, 0] S1x256x512.size inb_S2x256x512_S1x256x512_0_0_0).toLoadRect (View.loadsAt_vmem h_S1x256x512))
  let v : Vec F S1x256x512 .f32 ← Prog.lift (.load arg5 (Rect.unit (s := S2x256x512) ![1, 0, 0] S1x256x512.size inb_S2x256x512_S1x256x512_1_0_0).toLoadRect (View.loadsAt_vmem h_S1x256x512))
  stageWaitS arg5 harg5 arg7 (semAt arg9 ![0] inb_S4_S1_0)
  stageWaitR arg5 harg5 arg7 (semAt arg10 ![1] inb_S4_S1_1)
  stageWaitS arg5 harg5 arg8 (semAt arg11 ![0] inb_S4_S1_0)
  stageWaitR arg5 harg5 arg8 (semAt arg12 ![1] inb_S4_S1_1)
  G v4 hw2 v6 hw1 (queries x wq) (consume neg k0_pay114 (queries x wq) (flat3 k) (flat3 v) (initSt neg))

/-- The fourteen trips of the loop. -/
def loop (v4 : BitVec 32) (hw2 : k0_chk2 v4) (v6 : BitVec 32) (hw1 : k0_chk1 v6) (q : FVec F S256x512 .f32) (s : St F) :
    Prog (TpuEff nD τ sig (Elt F) Λ₀ .tc) (StTup F) :=
  Scf.Loop.for k0_t1_loop k0_t1_ok s.tup
    (fun t acc => trip arg7 arg8 arg9 arg10 arg11 arg12 v4 hw2 v6 hw1 k0_pay114 q t (St.ofTup acc))

/-- The whole body, short. -/
def canon : Prog (TpuEff nD τ sig (Elt F) Λ₀ .tc) PUnit :=
  canonPre arg0 arg1 arg2 arg3 arg5 harg5 arg7 arg8 arg9 arg10 arg11 arg12 (fun v4 hw2 v6 hw1 q s =>
    loop arg7 arg8 arg9 arg10 arg11 arg12 v4 hw2 v6 hw1 q s >>= fun r =>
      tail arg4 arg6 arg7 arg8 arg9 arg10 v4 hw2 k0_pay114 q (St.ofTup r))

set_option maxRecDepth 65536 in
set_option maxHeartbeats 4000000 in
/-- The printed body is the short one, with the printed nesting after the loop. -/
theorem body_canon0 :
    cc0_body (F := F) arg0 harg0 arg1 harg1 arg2 harg2 arg3 harg3 arg4 harg4 arg5 harg5 arg6 harg6 arg7 harg7 arg8 harg8 arg9 arg10
        arg11 arg12
      = canonPre arg0 arg1 arg2 arg3 arg5 harg5 arg7 arg8 arg9 arg10 arg11 arg12 (fun v4 hw2 v6 hw1 q s =>
          (loop arg7 arg8 arg9 arg10 arg11 arg12 v4 hw2 v6 hw1 q s >>= mid arg7 arg9 arg10 v4 hw2) >>=
          (fin arg0 harg0 arg1 harg1 arg2 harg2 arg3 harg3 arg4 harg4 arg5 harg5 arg6 harg6 arg7 harg7 arg8 harg8 arg9 arg10
            arg11 arg12 v4 k0_pay114 q)) := rfl

set_option maxRecDepth 65536 in
set_option maxHeartbeats 4000000 in
/-- What follows the loop, short. -/
theorem tail_canon (v4 : BitVec 32) (hw2 : k0_chk2 v4) (q : FVec F S256x512 .f32) (r : StTup F) :
    mid arg7 arg9 arg10 v4 hw2 r >>=
        (fin arg0 harg0 arg1 harg1 arg2 harg2 arg3 harg3 arg4 harg4 arg5 harg5 arg6 harg6 arg7 harg7 arg8 harg8 arg9 arg10
            arg11 arg12 v4 k0_pay114 q)
      = tail arg4 arg6 arg7 arg8 arg9 arg10 v4 hw2 k0_pay114 q (St.ofTup r) := rfl

/-- The printed body is the short one. -/
theorem body_canon :
    cc0_body (F := F) arg0 harg0 arg1 harg1 arg2 harg2 arg3 harg3 arg4 harg4 arg5 harg5 arg6 harg6 arg7 harg7 arg8 harg8 arg9 arg10
        arg11 arg12
      = canon arg0 arg1 arg2 arg3 arg4 arg5 harg5 arg6 arg7 arg8 arg9 arg10 arg11 arg12 := by
  rw [body_canon0, canon]
  congr 1
  funext v4 hw2 v6 hw1 q s
  rw [Prog.bind_assoc]
  congr 1

end

end Cert.KernelIdeal.Att
-- ==== Proof.RingKI.lean ====
/-
The ring: which device is on which side, and what the printed address computations come to.

The thirty-two devices lie on a cycle that the two tables spell out. `nx` and `pv` are the two
neighbours; the words the kernel reads from its tables pass its checks and name these devices; the
slot and semaphore numbers of the loop are the trip's number modulo four.
-/
module

public import proofs.«01_k».proof.Proof.Gen.KernelIdeal

@[expose] public section

noncomputable section

namespace Cert.KernelIdeal.Att

open Idealize.ShloMosaic Idealize.ShloMosaic.TcCoe Idealize.SL.Sem Cert.KernelIdeal.Gen

/-- The neighbour on the right. -/
def nx (c : Dev nD) : Dev nD := ⟨(lit0 c).toNat % 32, Nat.mod_lt _ (by decide)⟩
/-- The neighbour on the left. -/
def pv (c : Dev nD) : Dev nD := ⟨(lit1 c).toNat % 32, Nat.mod_lt _ (by decide)⟩

/-- The right neighbour of the left neighbour. -/
theorem nx_pv (c : Dev nD) : nx (pv c) = c := by revert c; decide +kernel
/-- The left neighbour of the right neighbour. -/
theorem pv_nx (c : Dev nD) : pv (nx c) = c := by revert c; decide +kernel

/-- Going right, as a permutation of the devices. -/
def ring : Dev nD ≃ Dev nD := ⟨nx, pv, pv_nx, nx_pv⟩

/-- The word from the right table passes its check. -/
theorem chk2_lit (c : Dev nD) : k0_chk2 (lit0 c) := by revert c; decide +kernel
/-- The word from the left table passes its check. -/
theorem chk1_lit (c : Dev nD) : k0_chk1 (lit1 c) := by revert c; decide +kernel

/-- The first signal goes to the left neighbour. -/
theorem dev1_lit (c : Dev nD) (h) : (⟨k0_dev1 (lit1 c), h⟩ : Dev nD) = pv c :=
  Fin.ext ((by decide +kernel : ∀ c : Dev nD, k0_dev1 (lit1 c) = (pv c).val) c)
/-- The first leftward copy goes to the left neighbour. -/
theorem dev4_lit (c : Dev nD) (h) : (⟨k0_dev4 (lit1 c), h⟩ : Dev nD) = pv c :=
  Fin.ext ((by decide +kernel : ∀ c : Dev nD, k0_dev4 (lit1 c) = (pv c).val) c)
/-- The loop's leftward copies go to the left neighbour. -/
theorem dev6_lit (c : Dev nD) (h) : (⟨k0_dev6 (lit1 c), h⟩ : Dev nD) = pv c :=
  Fin.ext ((by decide +kernel : ∀ c : Dev nD, k0_dev6 (lit1 c) = (pv c).val) c)
/-- The second signal goes to the right neighbour. -/
theorem dev2_lit (c : Dev nD) (h) : (⟨k0_dev2 (lit0 c), h⟩ : Dev nD) = nx c :=
  Fin.ext ((by decide +kernel : ∀ c : Dev nD, k0_dev2 (lit0 c) = (nx c).val) c)
/-- The first rightward copy goes to the right neighbour. -/
theorem dev3_lit (c : Dev nD) (h) : (⟨k0_dev3 (lit0 c), h⟩ : Dev nD) = nx c :=
  Fin.ext ((by decide +kernel : ∀ c : Dev nD, k0_dev3 (lit0 c) = (nx c).val) c)
/-- The loop's rightward copies go to the right neighbour. -/
theorem dev5_lit (c : Dev nD) (h) : (⟨k0_dev5 (lit0 c), h⟩ : Dev nD) = nx c :=
  Fin.ext ((by decide +kernel : ∀ c : Dev nD, k0_dev5 (lit0 c) = (nx c).val) c)
/-- The last rightward copy goes to the right neighbour. -/
theorem dev7_lit (c : Dev nD) (h) : (⟨k0_dev7 (lit0 c), h⟩ : Dev nD) = nx c :=
  Fin.ext ((by decide +kernel : ∀ c : Dev nD, k0_dev7 (lit0 c) = (nx c).val) c)

/-- Where a device reads its neighbours' tables. -/
theorem off1_eq (c : Dev nD) : k0_off1 c = ![c.val] := by revert c; decide +kernel
/-- The semaphore by which a trip's copies leave. -/
theorem off2_eq (t : Fin k0_t1_loop.trips) : k0_off2 t = ![(t.val + 1) % 4] := by revert t; decide +kernel
/-- The semaphore by which a trip's copies land. -/
theorem off3_eq (t : Fin k0_t1_loop.trips) : k0_off3 t = ![(t.val + 2) % 4] := by revert t; decide +kernel
/-- The slot that a trip's copies go into. -/
theorem off4_eq (t : Fin k0_t1_loop.trips) : k0_off4 t = ![(t.val + 2) % 4, 0, 0, 0] := by revert t; decide +kernel
/-- The slot that a trip's copies come from. -/
theorem off5_eq (t : Fin k0_t1_loop.trips) : k0_off5 t = ![(t.val + 1) % 4, 0, 0, 0] := by revert t; decide +kernel
/-- Where a trip reads the keys. -/
theorem off6_eq (t : Fin k0_t1_loop.trips) : k0_off6 t = ![(t.val + 1) % 4, 0, 0, 0] := by revert t; decide +kernel
/-- Where a trip reads the values. -/
theorem off7_eq (t : Fin k0_t1_loop.trips) : k0_off7 t = ![(t.val + 1) % 4, 1, 0, 0] := by revert t; decide +kernel
/-- The semaphore number of content fifteen. -/
theorem off8_15 : k0_off8 15#32 = ![3] := by decide +kernel
/-- The semaphore number of content sixteen. -/
theorem off8_16 : k0_off8 16#32 = ![0] := by decide +kernel
/-- The slot of content fifteen. -/
theorem off9_15 : k0_off9 15#32 = ![3, 0, 0, 0] := by decide +kernel
/-- The slot of content sixteen. -/
theorem off9_16 : k0_off9 16#32 = ![0, 0, 0, 0] := by decide +kernel
/-- The loop has fourteen trips. -/
theorem trips_eq : k0_t1_loop.trips = 14 := by decide +kernel

end Cert.KernelIdeal.Att

end
-- ==== Proof.SchedKI.lean ====
/-
The two communication buffers' slots, and the schedule of the semaphores.

A direction is a Boolean: `true` is to the right. Copy `i` of a direction moves content `i` of the
sender's buffer (content 0 is its own staging block) into slot `(i + 1) % 4` of the neighbour, where it
is content `i + 1`. The receiving semaphore of content `j` hands over the slot, filled, together with
the right to write the slot of the opposite direction that the receiver's own copy `j` goes into.
-/
module

public import proofs.«01_k».proof.Proof.HeadsKI
public import proofs.«01_k».proof.Proof.RingKI
public import Mathlib.Algebra.BigOperators.Intervals
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Ring
public import Idealize.ShloMosaic.Lib.Scf
public import Idealize.ShloMosaic.Lib.Tactic

@[expose] public section

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state: the pipeline's rounds, and the kernel's own, whose duties are Booleans. -/
abbrev UU : Type := UR sig nD τ × URounds (GSem nD τ sig) Bool

local notation "𝕄" => MT nD τ sig ℕ (Elt F) ℕ UU ℕ

/-- The pipeline's part. -/
abbrev EP : Emb (UR sig nD τ) (MT nD τ sig ℕ (Elt F) ℕ UU ℕ) := embL
/-- The kernel's own part. -/
abbrev ER : Emb (URounds (GSem nD τ sig) Bool) (MT nD τ sig ℕ (Elt F) ℕ UU ℕ) := embR

/-! ## Slots -/

/-- The communication buffer of a direction. -/
def mr : Bool → Memref sig .tc .vmem S4x2x256x512 .f32
  | true => Memref.whole cc0_scratch0
  | false => Memref.whole cc0_scratch1

/-- A slot lies in its buffer. -/
theorem slot_inb (i : ℕ) : ∀ a : Fin 4, (![i % 4, 0, 0, 0] : Fin 4 → ℕ) a + S1x2x256x512.size a ≤ S4x2x256x512.size a := by
  have h : i % 4 < 4 := Nat.mod_lt _ (by decide)
  intro a; fin_cases a
  · show i % 4 + 1 ≤ 4; omega
  · show 0 + 2 ≤ 2; omega
  · show 0 + 256 ≤ 256; omega
  · show 0 + 512 ≤ 512; omega

/-- The slot of content `i`. -/
abbrev slot (b : Bool) (i : ℕ) : Memref sig .tc .vmem S2x256x512 .f32 := slotAt (mr b) ![i % 4, 0, 0, 0] (slot_inb i)

/-- A block: the keys and the values. -/
abbrev Blk (F : FTy → Type) [FloatOps F] : Type := Vec F S2x256x512 .f32

/-- Device `c`'s slot of content `i`, at whatever it holds. -/
def free (b : Bool) (c : Dev nD) (i : ℕ) : sProp 𝕄 :=
  iprop(∃ f, ((slot b i).view.loc (c : Thread nD τ) ↦[(slot b i).view.set]{fullShare} f))

/-- Device `c`'s slot of content `i`, holding `X`, at a share. -/
abbrev held (b : Bool) (c : Dev nD) (i : ℕ) (q : PosShare TreeShare) (X : Blk F) : sProp 𝕄 :=
  owns (c : Thread nD τ) (slot b i) q X

/-- A free slot can be handed over. -/
instance free_storable (b : Bool) (c : Dev nD) (i : ℕ) : BI.Storable (upEmb : UEmb _ 𝕄) (free (F := F) b c i) := by
  unfold free; infer_instance

/-- A slot whose contents nobody needs any more is free. -/
theorem free_of_held (b : Bool) (c : Dev nD) (i : ℕ) (X : Blk F) : held b c i fullShare X ⊢ (free b c i : sProp 𝕄) := by
  unfold held owns free; iintro ⟨%f, -, H⟩; iexists f; iexact H

/-- Slots at equal offsets are equal. -/
theorem slotAt_congr (m : Memref sig .tc .vmem S4x2x256x512 .f32) {o o' : Fin 4 → ℕ} (e : o = o') (h h') :
    slotAt m o h = slotAt m o' h' := by subst e; rfl

/-- Slots repeat after four contents. -/
theorem slot_add_four (b : Bool) (i : ℕ) : slot b (i + 4) = slot b i :=
  slotAt_congr _ (by rw [Nat.add_mod_right]) _ _

/-- So do free slots. -/
theorem free_add_four (b : Bool) (c : Dev nD) (i : ℕ) : (free b c (i + 4) : sProp 𝕄) = free b c i := by
  unfold free; rw [slot_add_four]

/-- A slot's two halves of the share. -/
theorem held_halves (b : Bool) (c : Dev nD) (i : ℕ) (X : Blk F) :
    (held b c i fullShare X : sProp 𝕄) ⊣⊢ iprop(held b c i fullShare.left X ∗ held b c i fullShare.right X) :=
  owns_halves _ _ _ X

/-! ## Loads -/

/-- The keys (`k = 0`) or the values (`k = 1`) of a block, as a load of a slot delivers them. -/
def slab (k : ℕ) (hk : ∀ a, (![0, k, 0, 0] : Fin 4 → ℕ) a + S1x1x256x512.size a ≤ S1x2x256x512.size a) (X : Blk F) :
    Vec F S1x1x256x512 .f32 := fun x =>
  shapeCast S1x2x256x512 X (by decide) ((Rect.unit (s := S1x2x256x512) ![0, k, 0, 0] S1x1x256x512.size hk).emb x)

/-- The keys lie in a slot. -/
theorem hk0 : ∀ a, (![0, 0, 0, 0] : Fin 4 → ℕ) a + S1x1x256x512.size a ≤ S1x2x256x512.size a := by decide
/-- The values lie in a slot. -/
theorem hk1 : ∀ a, (![0, 1, 0, 0] : Fin 4 → ℕ) a + S1x1x256x512.size a ≤ S1x2x256x512.size a := by decide

/-- A load of one slab, of a buffer whose slot reads `X`, is the slab of `X`. -/
theorem readAt_slab (m : Memref sig .tc .vmem S4x2x256x512 .f32) (i k : ℕ) (h h' hk) (f : m.view.ty.Contents (Elt F)) (X : Blk F)
    (hX : (slotAt m ![i, 0, 0, 0] h).view.read (Elt F) f = X) :
    m.view.readAt (Elt F) (Rect.unit (s := S4x2x256x512) ![i, k, 0, 0] S1x1x256x512.size h').toLoadRect f = slab k hk X := by
  subst hX
  funext x
  unfold slab
  rw [Memref.read_squeeze_slice m _ _ _ (show S1x2x256x512.ShapeCasts S2x256x512 by decide), shapeCast_shapeCast]
  show m.view.read (Elt F) f _ = m.view.read (Elt F) f _
  refine congrArg _ (funext fun a => Fin.ext ?_)
  fin_cases a
  · show i + 1 * (x 0).val = i + 1 * (0 + 1 * (x 0).val); omega
  · show k + 1 * (x 1).val = 0 + 1 * (k + 1 * (x 1).val); omega
  · show 0 + 1 * (x 2).val = 0 + 1 * (0 + 1 * (x 2).val); omega
  · show 0 + 1 * (x 3).val = 0 + 1 * (0 + 1 * (x 3).val); omega

/-- A slab lies inside its slot. -/
theorem slab_sub (m : Memref sig .tc .vmem S4x2x256x512 .f32) (i k : ℕ) (hk : k + 1 ≤ 2) (h h') :
    m.view.setOn (Rect.unit (s := S4x2x256x512) ![i, k, 0, 0] S1x1x256x512.size h').toLoadRect.set
      ⊆ (slotAt m ![i, 0, 0, 0] h).view.set := by
  have e : (slotAt m ![i, 0, 0, 0] h).view.set = m.view.setOn (Rect.unit (s := S4x2x256x512) ![i, 0, 0, 0] S1x2x256x512.size h).set := by
    show ((m.view.slice _).reshape _ _).set = _
    rw [View.set_reshape, View.set_slice]; rfl
  rw [e]
  refine Finset.map_subset_map.mpr fun j hj => ?_
  have hj' : j ∈ (Rect.unit (s := S4x2x256x512) ![i, k, 0, 0] S1x1x256x512.size h').set := by simpa using hj
  rw [Rect.mem_set_unit] at hj' ⊢
  intro a
  have := hj' a
  fin_cases a
  · exact this
  · have h1 : k ≤ (j 1).val ∧ (j 1).val < k + 1 := this
    show 0 ≤ (j 1).val ∧ (j 1).val < 0 + 2
    omega
  · exact this
  · exact this

section Rules

variable (c : Dev nD)

/-- The rules' variants: none. -/
abbrev 𝒱₀ : Variants := Variants.none

/-- A slab load at the head of a program. -/
theorem wp_slab {b : Bool} {i k : ℕ} {o : Fin 4 → ℕ} (ho : o = ![i % 4, k, 0, 0]) (hk : k + 1 ≤ 2) (hk')
    {h : ∀ a, o a + S1x1x256x512.size a ≤ S4x2x256x512.size a} {X : Blk F} {q : PosShare TreeShare}
    {α : Type} {Q : α → sProp 𝕄} {K : Vec F S1x1x256x512 .f32 → Prog (TpuEff nD τ sig (Elt F) Λ₀ .tc) α} :
    held b c i q X
      ⊢ iprop((held b c i q X -∗ wp frame (wpE (defs₀ (F := F)) 𝒱₀ (c : Thread nD τ) none) Set.univ (K (slab k hk' X)) Q)
          -∗ wp frame (wpE (defs₀ (F := F)) 𝒱₀ (c : Thread nD τ) none) Set.univ
            (.op (.load (mr b) (Rect.unit (s := S4x2x256x512) o S1x1x256x512.size h).toLoadRect (View.loadsAt_vmem h_S1x1x256x512)) K) Q) := by
  subst ho
  unfold held owns
  iintro ⟨%f, %hf, H⟩ Hk
  iapply (wp_load 𝒱₀ (c : Thread nD τ) none Set.univ (m := mr b) (slab_sub (mr b) (i % 4) k hk (slot_inb i) h)) $$ H
  iintro H
  rw [readAt_slab (mr b) (i % 4) k (slot_inb i) h hk' f X hf]
  iapply Hk
  iexists f
  isplitr; · (ipureintro; exact hf)
  iexact H

end Rules

/-! ## Semaphores -/

/-- The semaphores a direction's copies signal on the sender. -/
def sS : Bool → DmaSems sig S4
  | true => cc0_scratch2
  | false => cc0_scratch4

/-- The semaphores a direction's copies signal on the receiver. -/
def sR : Bool → DmaSems sig S4
  | true => cc0_scratch3
  | false => cc0_scratch5

/-- A semaphore lies in its array. -/
theorem sem_inb (i : ℕ) : ∀ a : Fin 1, (![i % 4] : Fin 1 → ℕ) a + S1.size a ≤ S4.size a := by
  have h : i % 4 < 4 := Nat.mod_lt _ (by decide)
  intro a; fin_cases a; show i % 4 + 1 ≤ 4; omega

/-- The semaphore of copy `i` on the sender. -/
abbrev semS (b : Bool) (i : ℕ) : DmaSem sig := semAt (sS b) ![i % 4] (sem_inb i)
/-- The semaphore of content `j` on the receiver. -/
abbrev semR (b : Bool) (j : ℕ) : DmaSem sig := semAt (sR b) ![j % 4] (sem_inb j)

/-- Equal places name equal semaphores. -/
theorem semAt_congr (a : DmaSems sig S4) {o o' : Fin 1 → ℕ} (e : o = o') (h h') : semAt a o h = semAt a o' h' := by subst e; rfl

/-- The number of a sending semaphore. -/
theorem semS_val (b : Bool) (i : ℕ) : (semS b i).val = (if b then 7 else 15) + i % 4 := by
  have h : i % 4 < 4 := Nat.mod_lt _ (by decide)
  have : ∀ (b : Bool) (k : Fin 4) (h), (semAt (sS b) ![k.val] h).val = (if b then 7 else 15) + k.val := by decide +kernel
  exact this b ⟨i % 4, h⟩ _

/-- The number of a receiving semaphore. -/
theorem semR_val (b : Bool) (i : ℕ) : (semR b i).val = (if b then 11 else 19) + i % 4 := by
  have h : i % 4 < 4 := Nat.mod_lt _ (by decide)
  have : ∀ (b : Bool) (k : Fin 4) (h), (semAt (sR b) ![k.val] h).val = (if b then 11 else 19) + k.val := by decide +kernel
  exact this b ⟨i % 4, h⟩ _

/-- The units one copy moves. -/
def NN : ℕ := (slot true 0).view.dmaCredit

/-- A copy of any slot moves the same units. -/
theorem credit_slot (b : Bool) (i : ℕ) : (slot b i).view.dmaCredit = NN := by cases b <;> rfl
/-- A copy of the staging block moves as many. -/
theorem credit_stage : (Memref.whole cc0_stg5_0 : Memref sig .tc .vmem S2x256x512 .f32).view.dmaCredit = NN := rfl
/-- A copy moves something. -/
theorem NN_pos : 0 < NN := by unfold NN; decide +kernel

/-! ## The schedule -/

/-- The neighbour a direction's copies go to. -/
def tw : Bool → Dev nD → Dev nD
  | true => nx
  | false => pv

/-- There and back again. -/
theorem tw_not (b : Bool) (c : Dev nD) : tw (!b) (tw b c) = c := by
  cases b
  · exact nx_pv c
  · exact pv_nx c

/-- Back and there again. -/
theorem tw_not' (b : Bool) (c : Dev nD) : tw b (tw (!b) c) = c := by
  cases b
  · exact pv_nx c
  · exact nx_pv c

/-- How many copies go in a direction. -/
def lim : Bool → ℕ
  | true => 16
  | false => 15

/-- At most sixteen copies go in a direction. -/
theorem lim_le (b : Bool) : lim b ≤ 16 := by cases b <;> decide
/-- At least fifteen copies go in a direction. -/
theorem le_lim (b : Bool) : 15 ≤ lim b := by cases b <;> decide

/-- The barrier's cell of device `c`. -/
abbrev barC (c : Dev nD) : GSem nD τ sig := ((c : Thread nD τ), .reg (SemArray.scalar (sig.barrier 0 rfl) : Sems sig S_).sem)
/-- The cell of copy `i` on its sender. -/
abbrev sendC (b : Bool) (c : Dev nD) (i : ℕ) : GSem nD τ sig := ((c : Thread nD τ), .dma (semS b i))
/-- The cell of content `j` on its receiver. -/
abbrev recvC (b : Bool) (c : Dev nD) (j : ℕ) : GSem nD τ sig := ((c : Thread nD τ), .dma (semR b j))

/-- The direction of a semaphore. -/
def dirOf (k : ℕ) : Bool := decide (k < 15)
/-- Whether it is a receiving one. -/
def isRecv (k : ℕ) : Bool := decide ((11 ≤ k ∧ k < 15) ∨ 19 ≤ k)
/-- The copy that signals it in round `r`. -/
def copyOf (k r : ℕ) : ℕ :=
  if 19 ≤ k then 4 * r + (k - 19 + 3) % 4 else if 15 ≤ k then 4 * r + (k - 15) else if 11 ≤ k then 4 * r + (k - 11 + 3) % 4
  else 4 * r + (k - 7)

variable (kv : Dev nD → Blk F)

/-- Content `i` of a direction on device `c`: the block of the device `i` places back. -/
def cont (b : Bool) (c : Dev nD) (i : ℕ) : Blk F := kv ((tw (!b))^[i] c)

/-- A content moves one place on and keeps its value. -/
theorem cont_succ (b : Bool) (c : Dev nD) (i : ℕ) : cont kv b (tw b c) (i + 1) = cont kv b c i := by
  unfold cont; rw [Function.iterate_succ_apply, tw_not]

/-- The staging block of the keys and values. -/
abbrev kvM : Memref sig .tc .vmem S2x256x512 .f32 := Memref.whole cc0_stg5_0

/-- The part of the staging block's share that a direction's first copy takes. -/
def stShare : Bool → PosShare TreeShare
  | true => fullShare.left
  | false => fullShare.right.left

/-- What a copy gives back to its sender when it has left: the share it read its source by. -/
def sendPay (b : Bool) (c : Dev nD) (i : ℕ) : sProp 𝕄 :=
  if i = 0 then owns (c : Thread nD τ) kvM (stShare b) (kv c) else held b c i fullShare.left (cont kv b c i)

/-- The right to write the slot of the neighbour that copy `i` goes into. -/
def leave (b : Bool) (c : Dev nD) (i : ℕ) : sProp 𝕄 :=
  iprop(free b (tw b c) (i + 1) ∗ reached ER (recvC b (tw b c) (i + 1)) (i / 4))

/-- What comes with content `j`: the leave for the receiver's own copy `j` in the opposite direction, if there is one. -/
def bonus (b : Bool) (c : Dev nD) (j : ℕ) : sProp 𝕄 :=
  if j < lim b then leave b c j else iprop(emp)

/-- What a landed copy hands to its receiver. -/
def recvPay (b : Bool) (c : Dev nD) (i : ℕ) : sProp 𝕄 :=
  iprop(held b c (i + 1) fullShare (cont kv b c (i + 1)) ∗ bonus (!b) c (i + 1))

/-- The leave to write a slot can be handed over. -/
instance leave_storable (b : Bool) (c : Dev nD) (i : ℕ) : BI.Storable (upEmb : UEmb _ 𝕄) (leave (F := F) b c i) := by
  unfold leave; infer_instance
/-- So can what comes with a content. -/
instance bonus_storable (b : Bool) (c : Dev nD) (i : ℕ) : BI.Storable (upEmb : UEmb _ 𝕄) (bonus (F := F) b c i) := by
  unfold bonus; split <;> infer_instance
/-- What a departure gives back can be handed over. -/
instance sendPay_storable (b : Bool) (c : Dev nD) (i : ℕ) : BI.Storable (upEmb : UEmb _ 𝕄) (sendPay kv b c i) := by
  unfold sendPay; split <;> infer_instance
/-- What a landing gives can be handed over. -/
instance recvPay_storable (b : Bool) (c : Dev nD) (i : ℕ) : BI.Storable (upEmb : UEmb _ 𝕄) (recvPay kv b c i) := by
  unfold recvPay; infer_instance

/-- The duties, their amounts and what they hand over. A barrier has two duties in its first round, one per neighbour; a
    copy's semaphores have one duty for each copy that signals them. -/
def ringRd : Rounds.Schedule (GSem nD τ sig) Bool 𝕄 where
  duties g r := match g.2 with
    | .reg _ => if r = 0 then {true, false} else ∅
    | .dma k => if copyOf k.val r < lim (dirOf k.val) then {true} else ∅
  amount g _ _ := match g.2 with
    | .reg _ => 1
    | .dma _ => NN
  payload g r d := match g.2 with
    | .reg _ => leave d g.1.1 0
    | .dma k => if isRecv k.val then recvPay kv (dirOf k.val) g.1.1 (copyOf k.val r) else sendPay kv (dirOf k.val) g.1.1 (copyOf k.val r)
  amount_pos g _ _ _ := by
    rcases g with ⟨_, _ | _⟩
    · exact Nat.one_pos
    · exact NN_pos

/-- Every payload of the schedule can be handed over. -/
instance ringRd_payload_storable (g : GSem nD τ sig) (r : ℕ) (d : Bool) : BI.Storable (upEmb : UEmb _ 𝕄) ((ringRd kv).payload g r d) := by
  rcases g with ⟨_, _ | _⟩
  · exact leave_storable _ _ _
  · dsimp only [ringRd]; split <;> infer_instance

/-- A sending semaphore's number tells its direction, its kind and its copies. -/
theorem semS_dec (b : Bool) (i : ℕ) : dirOf (semS b i).val = b ∧ isRecv (semS b i).val = false ∧ ∀ r, copyOf (semS b i).val r = 4 * r + i % 4 := by
  have h : i % 4 < 4 := Nat.mod_lt _ (by decide)
  rw [semS_val]
  refine ⟨?_, ?_, fun r => ?_⟩
  · cases b <;> simp [dirOf] <;> omega
  · cases b <;> simp [isRecv] <;> omega
  · cases b <;> simp only [copyOf, if_true, if_false, Bool.false_eq_true] <;> split_ifs <;> omega

/-- A receiving semaphore's number tells the same. -/
theorem semR_dec (b : Bool) (i : ℕ) :
    dirOf (semR b (i + 1)).val = b ∧ isRecv (semR b (i + 1)).val = true ∧ ∀ r, copyOf (semR b (i + 1)).val r = 4 * r + i % 4 := by
  have h : i % 4 < 4 := Nat.mod_lt _ (by decide)
  rw [semR_val]
  refine ⟨?_, ?_, fun r => ?_⟩
  · cases b <;> simp [dirOf] <;> omega
  · cases b <;> simp [isRecv] <;> omega
  · cases b <;> simp only [copyOf, if_true, if_false, Bool.false_eq_true] <;> split_ifs <;> omega

/-- A sending semaphore's duties, round by round. -/
theorem duties_send (b : Bool) (c : Dev nD) (i : ℕ) (r : ℕ) :
    (ringRd kv).duties (sendC b c i) r = if 4 * r + i % 4 < lim b then {true} else ∅ := by
  obtain ⟨h1, _, h3⟩ := semS_dec b i
  show (if copyOf (semS b i).val r < lim (dirOf (semS b i).val) then ({true} : Finset Bool) else ∅) = _
  rw [h1, h3]

/-- A receiving semaphore's duties, round by round. -/
theorem duties_recv (b : Bool) (c : Dev nD) (i : ℕ) (r : ℕ) :
    (ringRd kv).duties (recvC b c (i + 1)) r = if 4 * r + i % 4 < lim b then {true} else ∅ := by
  obtain ⟨h1, _, h3⟩ := semR_dec b i
  show (if copyOf (semR b (i + 1)).val r < lim (dirOf (semR b (i + 1)).val) then ({true} : Finset Bool) else ∅) = _
  rw [h1, h3]

/-- The barrier's first round has one duty for each neighbour. -/
theorem duties_bar (c : Dev nD) : (ringRd kv).duties (barC c) 0 = {true, false} := rfl
/-- The barrier has no later round. -/
theorem duties_bar_later (c : Dev nD) : ∀ r, 1 ≤ r → (ringRd kv).duties (barC c) r = ∅ := fun r hr => if_neg (by omega)

/-- A copy's number from its round and its slot. -/
theorem div_add (i : ℕ) : 4 * (i / 4) + i % 4 = i := Nat.div_add_mod i 4

/-- Copy `i` has its duty in its sending semaphore's round. -/
theorem duties_send_at (b : Bool) (c : Dev nD) {i : ℕ} (hi : i < lim b) : (ringRd kv).duties (sendC b c i) (i / 4) = {true} := by
  rw [duties_send, div_add, if_pos hi]
/-- Copy `i` has its duty in its receiving semaphore's round. -/
theorem duties_recv_at (b : Bool) (c : Dev nD) {i : ℕ} (hi : i < lim b) : (ringRd kv).duties (recvC b c (i + 1)) (i / 4) = {true} := by
  rw [duties_recv, div_add, if_pos hi]

/-- After the last copy a sending semaphore has no duties. -/
theorem duties_send_later (b : Bool) (c : Dev nD) {i : ℕ} (hi : lim b ≤ i) : ∀ r, i / 4 ≤ r → (ringRd kv).duties (sendC b c i) r = ∅ :=
  fun r hr => by rw [duties_send, if_neg (by omega)]
/-- After the last copy a receiving semaphore has no duties. -/
theorem duties_recv_later (b : Bool) (c : Dev nD) {i : ℕ} (hi : lim b ≤ i) : ∀ r, i / 4 ≤ r → (ringRd kv).duties (recvC b c (i + 1)) r = ∅ :=
  fun r hr => by rw [duties_recv, if_neg (by omega)]

/-- What copy `i` gives back to its sender. -/
theorem payload_send (b : Bool) (c : Dev nD) (i : ℕ) (d : Bool) : (ringRd kv).payload (sendC b c i) (i / 4) d = sendPay kv b c i := by
  obtain ⟨h1, h2, h3⟩ := semS_dec b i
  show (if isRecv (semS b i).val then recvPay kv (dirOf (semS b i).val) c (copyOf (semS b i).val (i / 4))
    else sendPay kv (dirOf (semS b i).val) c (copyOf (semS b i).val (i / 4))) = _
  rw [h1, h2, h3, div_add]; rfl

/-- What copy `i` hands to its receiver. -/
theorem payload_recv (b : Bool) (c : Dev nD) (i : ℕ) (d : Bool) : (ringRd kv).payload (recvC b c (i + 1)) (i / 4) d = recvPay kv b c i := by
  obtain ⟨h1, h2, h3⟩ := semR_dec b i
  show (if isRecv (semR b (i + 1)).val then recvPay kv (dirOf (semR b (i + 1)).val) c (copyOf (semR b (i + 1)).val (i / 4))
    else sendPay kv (dirOf (semR b (i + 1)).val) c (copyOf (semR b (i + 1)).val (i / 4))) = _
  rw [h1, h2, h3, div_add]; rfl

/-- What a signal of the barrier hands over: the leave for the first copy. -/
theorem payload_bar (c : Dev nD) (r : ℕ) (d : Bool) : (ringRd kv).payload (barC c) r d = leave d c 0 := rfl

/-- A round of a sending semaphore amounts to one copy. -/
theorem expect_send (b : Bool) (c : Dev nD) {i : ℕ} (hi : i < lim b) : (ringRd kv).expect (sendC b c i) (i / 4) = NN := by
  unfold Schedule.expect Schedule.amountOf; rw [duties_send_at kv b c hi, Finset.sum_singleton]; rfl
/-- A round of a receiving semaphore amounts to one copy. -/
theorem expect_recv (b : Bool) (c : Dev nD) {i : ℕ} (hi : i < lim b) : (ringRd kv).expect (recvC b c (i + 1)) (i / 4) = NN := by
  unfold Schedule.expect Schedule.amountOf; rw [duties_recv_at kv b c hi, Finset.sum_singleton]; rfl
/-- The barrier's round amounts to two. -/
theorem expect_bar (c : Dev nD) : (ringRd kv).expect (barC c) 0 = 2 := by
  unfold Schedule.expect Schedule.amountOf; rw [duties_bar]; rfl

/-! ## Levels and debts -/

/-- The indices a cell's waits may have. -/
def L (g : GSem nD τ sig) : Finset ℕ := if g.1.2 = .tc then Finset.range 17 else ∅

/-- The levels: a receiving semaphore's wait for copy `i` comes at `i + 2`, after the barrier's at 1. -/
def lv (g : GSem nD τ sig) (ι : ℕ) : ℕ := match g.2 with
  | .reg _ => 1
  | .dma k => if isRecv k.val then ι + 2 else 0

/-- The level of a sending semaphore. -/
theorem lv_send (b : Bool) (c : Dev nD) (i ι : ℕ) : lv (sendC b c i) ι = 0 := by
  show (if isRecv (semS b i).val then ι + 2 else 0) = 0
  rw [(semS_dec b i).2.1]; rfl
/-- The level of a receiving semaphore. -/
theorem lv_recv (b : Bool) (c : Dev nD) (i ι : ℕ) : lv (recvC b c (i + 1)) ι = ι + 2 := by
  show (if isRecv (semR b (i + 1)).val then ι + 2 else 0) = _
  rw [(semR_dec b i).2.1]; rfl

/-- What device `c` still owes of a direction before its copy `i`. -/
def owe (b : Bool) (c : Dev nD) (i : ℕ) : CellTallies nD τ sig ℕ := ∑ k ∈ Finset.Ico i (lim b), tallyAt (recvC b (tw b c) (k + 1)) k NN

/-- Starting copy `i` pays what is owed for it. -/
theorem owe_step (b : Bool) (c : Dev nD) {i : ℕ} (hi : i < lim b) :
    owe b c i = owe b c (i + 1) + tallyAt (recvC b (tw b c) (i + 1)) i NN := by
  unfold owe; rw [Finset.sum_eq_sum_Ico_succ_bot hi, add_comm]

/-- After the last copy nothing is owed. -/
theorem owe_end (b : Bool) (c : Dev nD) {i : ℕ} (hi : lim b ≤ i) : owe b c i = 0 := by
  unfold owe; rw [Finset.Ico_eq_empty_of_le hi, Finset.sum_empty]

/-- What is owed is at the receiving cell of a copy still to come. -/
theorem owe_pos {b : Bool} {c : Dev nD} {i : ℕ} {g : GSem nD τ sig} {u : ℕ} (h : 0 < owe b c i g u) :
    ∃ d, i ≤ u ∧ u < lim b ∧ g = recvC b d (u + 1) := by
  unfold owe at h
  rw [Finset.sum_apply, Finsupp.finset_sum_apply] at h
  obtain ⟨k, hk, hk'⟩ := Finset.exists_ne_zero_of_sum_ne_zero (Nat.pos_iff_ne_zero.mp h)
  rw [tallyAt_apply] at hk'
  by_cases e : recvC b (tw b c) (k + 1) = g ∧ k = u
  · obtain ⟨e1, e2⟩ := e
    subst e2; subst e1
    rw [Finset.mem_Ico] at hk
    exact ⟨tw b c, hk.1, hk.2, rfl⟩
  · exact absurd (if_neg (fun h' => e ⟨h'.1.symm, h'.2.symm⟩)) hk'

/-- A wait below every debt. -/
theorem mayWait (c : Dev nD) (sm : SemLoc sig) (ι i j : ℕ) (hι : ι < 17) (hb : lv ((c : Thread nD τ), sm) ι < i + 2)
    (hb' : lv ((c : Thread nD τ), sm) ι < j + 2) :
    (levAts L lv : sProp 𝕄) ⊢ MayWait (c : Thread nD τ) sm ι (owe true c i + owe false c j) := by
  have key : ∀ (g : GSem nD τ sig) (u : ℕ), 0 < (owe true c i + owe false c j) g u →
      u < 17 ∧ g.1.2 = .tc ∧ lv ((c : Thread nD τ), sm) ι < lv g u := by
    intro g u h
    rw [Pi.add_apply, Finsupp.add_apply] at h
    rcases Nat.add_pos_iff_pos_or_pos.mp h with h | h
    · obtain ⟨d, h1, h2, rfl⟩ := owe_pos h
      have := lim_le true
      refine ⟨by omega, rfl, ?_⟩
      rw [lv_recv]; omega
    · obtain ⟨d, h1, h2, rfl⟩ := owe_pos h
      have := lim_le false
      refine ⟨by omega, rfl, ?_⟩
      rw [lv_recv]; omega
  refine MayOwe.of_cut (L := L) (lev := lv) (lv ((c : Thread nD τ), sm) ι) (fun p hp => ?_) (fun g u hg => ?_) (fun p hp => ?_) (fun g u hg => (key g u hg).2.2)
  · rw [Finset.mem_singleton.mp hp]; unfold L; rw [if_pos rfl]; exact Finset.mem_range.mpr hι
  · unfold L; rw [if_pos (key g u hg).2.1]; exact Finset.mem_range.mpr (key g u hg).1
  · rw [Finset.mem_singleton.mp hp]

end Cert.KernelIdeal.Att

end
-- ==== Proof.StepKI.lean ====
/-
One copy, one wait, one round of the ring, as rules.
-/
module

public import proofs.«01_k».proof.Proof.SchedKI

@[expose] public section

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → Blk F) (c : Dev nD)

/-- A cell's invariant, under some name. -/
def ci (g : GSem nD τ sig) : sProp 𝕄 := iprop(∃ κ, cellInv ER (ringRd kv) κ g)

/-- A cell's invariant stays. -/
instance ci_persistent (g : GSem nD τ sig) : BI.Persistent (ci kv g) := by unfold ci; infer_instance

/-- What the device owes, whatever it has waited for. -/
def ow (O : CellTallies nD τ sig ℕ) : sProp 𝕄 := iprop(∃ W, owes (c : Thread nD τ) O W)

/-- The sender's place at copy `i`. -/
def sendAt (b : Bool) (i : ℕ) : sProp 𝕄 :=
  iprop(atPos ER (sendC b c i) (i / 4) ∅ 0 ∗ reached ER (sendC b c i) (i / 4))
/-- The receiver's place at copy `i`. -/
def recvAt (b : Bool) (i : ℕ) : sProp 𝕄 :=
  iprop(atPos ER (recvC b c (i + 1)) (i / 4) ∅ 0 ∗ reached ER (recvC b c (i + 1)) (i / 4))

/-- Sending semaphores repeat after four copies. -/
theorem sendC_add_four (b : Bool) (i : ℕ) : sendC b c (i + 4) = sendC b c i := by
  unfold sendC semS; rw [semAt_congr (sS b) (by rw [Nat.add_mod_right] : (![(i + 4) % 4] : Fin 1 → ℕ) = ![i % 4]) _ (sem_inb i)]
/-- Receiving semaphores repeat after four contents. -/
theorem recvC_add_four (b : Bool) (i : ℕ) : recvC b c (i + 4) = recvC b c i := by
  unfold recvC semR; rw [semAt_congr (sR b) (by rw [Nat.add_mod_right] : (![(i + 4) % 4] : Fin 1 → ℕ) = ![i % 4]) _ (sem_inb i)]

/-- The place of a sending semaphore four copies on. -/
theorem sendAt_next (b : Bool) (i : ℕ) :
    (iprop(atPos ER (sendC b c i) (i / 4 + 1) ∅ 0 ∗ reached ER (sendC b c i) (i / 4 + 1)) : sProp 𝕄) = sendAt c b (i + 4) := by
  unfold sendAt; rw [sendC_add_four, Nat.add_div_right i (by decide)]
/-- The place of a receiving semaphore four copies on. -/
theorem recvAt_next (b : Bool) (i : ℕ) :
    (iprop(atPos ER (recvC b c (i + 1)) (i / 4 + 1) ∅ 0 ∗ reached ER (recvC b c (i + 1)) (i / 4 + 1)) : sProp 𝕄) = recvAt c b (i + 4) := by
  unfold recvAt
  rw [show i + 4 + 1 = i + 1 + 4 by omega, recvC_add_four, Nat.add_div_right i (by decide)]

/-- A copy between slots, at the head of a program. -/
theorem wp_copy {b : Bool} {i : ℕ} (hi0 : i ≠ 0) (hi : i < lim b) {o5 o4 : Fin 4 → ℕ} {h5 h4} {d : Dev nD} {s r : DmaSem sig}
    (ho5 : o5 = ![i % 4, 0, 0, 0]) (ho4 : o4 = ![(i + 1) % 4, 0, 0, 0]) (hd : d = tw b c) (hs : s = semS b i) (hr : r = semR b (i + 1))
    (O : CellTallies nD τ sig ℕ) {O' : CellTallies nD τ sig ℕ} (hO : O' = O + tallyAt (recvC b (tw b c) (i + 1)) i NN)
    {w3 w1 w2 hT} {α : Type} {Q : α → sProp 𝕄} {K : PUnit → Prog (TpuEff nD τ sig (Elt F) Λ₀ .tc) α} :
    iprop(ci kv (sendC b c i) ∗ ci kv (recvC b (tw b c) (i + 1)) ∗ held b c i fullShare.left (cont kv b c i) ∗ leave b c i
        ∗ bonus (!b) (tw b c) (i + 1) ∗ ow c O' ∗ (dutyTok ER (sendC b c i) (i / 4) true ∗ dutyTok ER (recvC b (tw b c) (i + 1)) (i / 4) true)
        ∗ sendAt c b i)
      ⊢ iprop(((cred (tallyAt (sendC b c i) 0 NN) ∗ ow c O ∗ sendAt c b i)
            -∗ wp frame (wpE (defs₀ (F := F)) 𝒱₀ (c : Thread nD τ) none) Set.univ (K ⟨⟩) Q)
          -∗ wp frame (wpE (defs₀ (F := F)) 𝒱₀ (c : Thread nD τ) none) Set.univ
            (.op (.enqueueDma (slotAt (mr b) o5 h5) (.remote (Dev.tc d) (slotAt (mr b) o4 h4) (.dma s) w3) (.dma r) w1 w2 hT) K) Q) := by
  subst ho5; subst ho4; subst hd; subst hs; subst hr
  unfold ci ow held owns leave free sendAt
  iintro ⟨⟨%κ₁, #HI₁⟩, ⟨%κ₂, #HI₂⟩, ⟨%fs, %hfs, Hs⟩, ⟨⟨%fd, Hd⟩, Hrch⟩, HB, ⟨%W, HO⟩, ⟨Ht₁, Ht₂⟩, Hat, #Hr₁⟩ Hk
  iapply (Rounds.wp_send_pointsTo_with 𝒱₀ ER (ringRd kv) (c : Thread nD τ) none (c' := (tw b c : Thread nD τ))
      (src := slot b i) (dst := slot b (i + 1)) (sS := .dma (semS b i)) (sem := .dma (semR b (i + 1))) (fs := fs) (fd := fd) (F := bonus (!b) (tw b c) (i + 1)) (κ₁ := κ₁) (κ₂ := κ₂)
      (r₁ := i / 4) (r₂ := i / 4) (d₁ := true) (d₂ := true)
      (by rw [duties_send_at kv b c hi]; exact Finset.mem_singleton_self _)
      (by rw [duties_recv_at kv b (tw b c) hi]; exact Finset.mem_singleton_self _)
      i 0 NN (credit_slot b (i + 1)) rfl rfl O hO
      (by
        rw [payload_send kv b c i true]; unfold sendPay; rw [if_neg hi0]
        unfold held owns
        iintro H; iexists fs; isplitr; · (ipureintro; exact hfs)
        iexact H)
      (by
        rw [payload_recv kv b (tw b c) i true]; unfold recvPay
        unfold held owns
        iintro ⟨H, HF⟩
        isplitr [HF]
        · iexists _; isplitr
          swap; · iexact H
          ipureintro; rw [View.read_write_univ, hfs, cont_succ]
        · iexact HF)) $$ [Hs Hd HB HO Ht₁ Ht₂ Hrch]
  · isplitr; · iexact HI₁
    isplitr; · iexact HI₂
    isplitl [Hs]; · iexact Hs
    isplitl [Hd HB]
    · isplitl [Hd]; · iexact Hd
      iexact HB
    isplitl [HO]; · iexact HO
    isplitl [Ht₁]; · iexact Ht₁
    isplitr; · iexact Hr₁
    isplitl [Ht₂]; · iexact Ht₂
    iexact Hrch
  iintro ⟨Hc, HO⟩
  iapply Hk
  isplitl [Hc]; · iexact Hc
  isplitl [HO]; · (iexists W; iexact HO)
  isplitl [Hat]; · iexact Hat
  iexact Hr₁

/-- The wait for a copy to have left. -/
theorem wp_waitS {b : Bool} {i : ℕ} (hi : i < lim b) {s : DmaSem sig} (hs : s = semS b i) (i' j' : ℕ)
    {sp sp' : Space} {s1 s2 : Shape} {e1 e2 : EltTy} {src : Memref sig .tc sp' s1 e1} {κ' : Kind} {dst : Memref sig κ' sp s2 e2}
    (hdst : dst.view.dmaCredit = NN)
    {w1 w2} {α : Type} {Q : α → sProp 𝕄} {K : PUnit → Prog (TpuEff nD τ sig (Elt F) Λ₀ .tc) α} :
    iprop(ci kv (sendC b c i) ∗ levAts L lv ∗ cred (tallyAt (sendC b c i) 0 NN) ∗ ow c (owe true c i' + owe false c j') ∗ sendAt c b i)
      ⊢ iprop(((ow c (owe true c i' + owe false c j') ∗ sendAt c b (i + 4) ∗ sendPay kv b c i)
            -∗ wp frame (wpE (defs₀ (F := F)) 𝒱₀ (c : Thread nD τ) none) Set.univ (K ⟨⟩) Q)
          -∗ wp frame (wpE (defs₀ (F := F)) 𝒱₀ (c : Thread nD τ) none) Set.univ
            (.op (.waitDma2 s src dst w1 w2) K) Q) := by
  subst hs
  rw [← sendAt_next]
  unfold ci ow sendAt
  iintro ⟨⟨%κ, #HI⟩, #Hlev, Hc, ⟨%W, HO⟩, Hat, -⟩ Hk
  iapply (Rounds.wp_wait_rest_token 𝒱₀ ER (ringRd kv) (c : Thread nD τ) none (κ := κ)
      (wpE_waitDma2_eq 𝒱₀ (c : Thread nD τ) none Set.univ) (Set.mem_univ _) 0 (O := owe true c i' + owe false c j') (W := W)
      (R := i / 4) (m := 0) (T := ∅)
      (by rw [expect_send kv b c hi, hdst, Nat.zero_add])) $$ [Hc HO Hat]
  · isplitr; · iexact HI
    isplitl [Hc]; · (rw [hdst]; iexact Hc)
    isplitl [HO]; · iexact HO
    isplitr
    · iapply (mayWait c (.dma (semS b i)) 0 i' j' (by decide) (by rw [lv_send]; omega) (by rw [lv_send]; omega)); iexact Hlev
    iexact Hat
  rw [Finset.sdiff_empty, duties_send_at kv b c hi, bigSep_singleton, payload_send kv b c i true]
  iintro ⟨HO, Hat, Hr, HP⟩
  iapply Hk
  isplitl [HO]; · (iexists _; iexact HO)
  isplitl [Hat Hr]
  · isplitl [Hat] <;> iassumption
  iexact HP

/-- The wait for a copy to have arrived. -/
theorem wp_waitR {b : Bool} {i : ℕ} (hi : i < lim b) {s : DmaSem sig} (hs : s = semR b (i + 1)) {i' j' : ℕ} (hi' : i < i') (hj' : i < j')
    {sp sp' : Space} {s1 s2 : Shape} {e1 e2 : EltTy} {src : Memref sig .tc sp' s1 e1} {κ' : Kind} {dst : Memref sig κ' sp s2 e2}
    (hdst : dst.view.dmaCredit = NN)
    {w1 w2} {α : Type} {Q : α → sProp 𝕄} {K : PUnit → Prog (TpuEff nD τ sig (Elt F) Λ₀ .tc) α} :
    iprop(ci kv (recvC b c (i + 1)) ∗ levAts L lv ∗ cred (tallyAt (recvC b c (i + 1)) i NN) ∗ ow c (owe true c i' + owe false c j') ∗ recvAt c b i)
      ⊢ iprop(((ow c (owe true c i' + owe false c j') ∗ recvAt c b (i + 4) ∗ recvPay kv b c i)
            -∗ wp frame (wpE (defs₀ (F := F)) 𝒱₀ (c : Thread nD τ) none) Set.univ (K ⟨⟩) Q)
          -∗ wp frame (wpE (defs₀ (F := F)) 𝒱₀ (c : Thread nD τ) none) Set.univ
            (.op (.waitDma2 s src dst w1 w2) K) Q) := by
  subst hs
  rw [← recvAt_next]
  unfold ci ow recvAt
  have hl := lim_le b
  iintro ⟨⟨%κ, #HI⟩, #Hlev, Hc, ⟨%W, HO⟩, Hat, -⟩ Hk
  iapply (Rounds.wp_wait_rest_token 𝒱₀ ER (ringRd kv) (c : Thread nD τ) none (κ := κ)
      (wpE_waitDma2_eq 𝒱₀ (c : Thread nD τ) none Set.univ) (Set.mem_univ _) i (O := owe true c i' + owe false c j') (W := W)
      (R := i / 4) (m := 0) (T := ∅)
      (by rw [expect_recv kv b c hi, hdst, Nat.zero_add])) $$ [Hc HO Hat]
  · isplitr; · iexact HI
    isplitl [Hc]; · (rw [hdst]; iexact Hc)
    isplitl [HO]; · iexact HO
    isplitr
    · iapply (mayWait c (.dma (semR b (i + 1))) i i' j' (by omega) (by rw [lv_recv]; omega) (by rw [lv_recv]; omega)); iexact Hlev
    iexact Hat
  rw [Finset.sdiff_empty, duties_recv_at kv b c hi, bigSep_singleton, payload_recv kv b c i true]
  iintro ⟨HO, Hat, Hr, HP⟩
  iapply Hk
  isplitl [HO]; · (iexists _; iexact HO)
  isplitl [Hat Hr]
  · isplitl [Hat] <;> iassumption
  iexact HP

end Cert.KernelIdeal.Att

end
-- ==== Proof.TripKI.lean ====
/-
One round of the ring: the state of a direction before its copy `i`, and the loop.
-/
module

public import proofs.«01_k».proof.Proof.StepKI

@[expose] public section

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → Blk F) (c : Dev nD)

/-- The keys of a block, as a matrix. -/
def kk (X : Blk F) : FVec F S256x512 .f32 := flat4 (slab 0 hk0 X)
/-- The values of a block, as a matrix. -/
def vv (X : Blk F) : FVec F S256x512 .f32 := flat4 (slab 1 hk1 X)
/-- The state after one more block. -/
def eat (q : FVec F S256x512 .f32) (X : Blk F) (s : St F) : St F := consume neg k0_pay114 q (kk X) (vv X) s

/-- Every cell's invariant. -/
def invs : sProp 𝕄 :=
  bigSep Finset.univ fun d : Dev nD => iprop(ci kv (barC d)
    ∗ bigSep Finset.univ fun x : Bool × Fin 4 => iprop(ci kv (sendC x.1 d x.2.val) ∗ ci kv (recvC x.1 d (x.2.val + 1))))

/-- The invariants stay. -/
instance invs_persistent : BI.Persistent (invs kv) := by unfold invs; infer_instance

/-- A sending semaphore depends on its copy only up to four. -/
theorem sendC_mod (b : Bool) (d : Dev nD) (i : ℕ) : sendC b d (i % 4) = sendC b d i := by
  unfold sendC semS; rw [semAt_congr (sS b) (by rw [Nat.mod_mod] : (![i % 4 % 4] : Fin 1 → ℕ) = ![i % 4]) _ (sem_inb i)]
/-- A receiving semaphore depends on its content only up to four. -/
theorem recvC_mod (b : Bool) (d : Dev nD) (i : ℕ) : recvC b d (i % 4 + 1) = recvC b d (i + 1) := by
  unfold recvC semR; rw [semAt_congr (sR b) (by rw [Nat.mod_add_mod] : (![(i % 4 + 1) % 4] : Fin 1 → ℕ) = ![(i + 1) % 4]) _ (sem_inb (i + 1))]

/-- One device's invariants, out of all. -/
theorem invs_at (d : Dev nD) : invs kv ⊢ iprop(ci kv (barC d)
    ∗ bigSep Finset.univ fun x : Bool × Fin 4 => iprop(ci kv (sendC x.1 d x.2.val) ∗ ci kv (recvC x.1 d (x.2.val + 1)))) :=
  bigSep_elim (Finset.mem_univ d)
/-- One slot's invariants, out of a device's. -/
theorem invs_at' (d : Dev nD) (x : Bool × Fin 4) :
    (bigSep Finset.univ fun x : Bool × Fin 4 => iprop(ci kv (sendC x.1 d x.2.val) ∗ ci kv (recvC x.1 d (x.2.val + 1))))
      ⊢ iprop(ci kv (sendC x.1 d x.2.val) ∗ ci kv (recvC x.1 d (x.2.val + 1))) :=
  bigSep_elim (Finset.mem_univ x)

/-- The barrier's invariant, out of all. -/
theorem invs_bar (d : Dev nD) : invs kv ⊢ ci kv (barC d) := by
  iintro H
  ihave H := (invs_at kv d) $$ H
  icases H with ⟨H, -⟩; iexact H
/-- The two invariants of one copy, out of all. -/
theorem invs_x (d : Dev nD) (b : Bool) (i : ℕ) : invs kv ⊢ iprop(ci kv (sendC b d i) ∗ ci kv (recvC b d (i + 1))) := by
  rw [← sendC_mod b d i, ← recvC_mod b d i]
  iintro H
  ihave H := (invs_at kv d) $$ H
  icases H with ⟨-, H⟩
  iapply (invs_at' kv d (b, ⟨i % 4, Nat.mod_lt _ (by decide)⟩)) $$ H
/-- The invariant of a copy's departure, out of all. -/
theorem invs_send (d : Dev nD) (b : Bool) (i : ℕ) : invs kv ⊢ ci kv (sendC b d i) := by
  refine (invs_x kv d b i).trans ?_
  iintro ⟨H, -⟩; iexact H
/-- The invariant of a copy's landing, out of all. -/
theorem invs_recv (d : Dev nD) (b : Bool) (i : ℕ) : invs kv ⊢ ci kv (recvC b d (i + 1)) := by
  refine (invs_x kv d b i).trans ?_
  iintro ⟨-, H⟩; iexact H

/-- The duty tokens of a direction's copies from `i` on. -/
def toks (b : Bool) (i : ℕ) : sProp 𝕄 :=
  bigSep (Finset.Ico i (lim b)) fun k =>
    iprop(dutyTok ER (sendC b c k) (k / 4) true ∗ dutyTok ER (recvC b (tw b c) (k + 1)) (k / 4) true)
/-- The credits of the copies that arrive, from `i` on. -/
def creds (b : Bool) (i : ℕ) : sProp 𝕄 :=
  bigSep (Finset.Ico i (lim b)) fun k => cred (tallyAt (recvC b c (k + 1)) k NN)

/-- The first number of an interval. -/
theorem Ico_head {i n : ℕ} (h : i < n) : Finset.Ico i n = insert i (Finset.Ico (i + 1) n) := by
  ext x; simp only [Finset.mem_insert, Finset.mem_Ico]; omega

/-- The tokens for the next copy, out of those for all that are left. -/
theorem toks_pop (b : Bool) {i : ℕ} (hi : i < lim b) :
    (toks (F := F) c b i : sProp 𝕄) = iprop((dutyTok ER (sendC b c i) (i / 4) true ∗ dutyTok ER (recvC b (tw b c) (i + 1)) (i / 4) true) ∗ toks c b (i + 1)) := by
  unfold toks; rw [Ico_head hi, bigSep_insert (by simp)]; rfl
/-- The credits for the next copy, out of those for all that are left. -/
theorem creds_pop (b : Bool) {i : ℕ} (hi : i < lim b) :
    (creds (F := F) c b i : sProp 𝕄) = iprop(cred (tallyAt (recvC b c (i + 1)) i NN) ∗ creds c b (i + 1)) := by
  unfold creds; rw [Ico_head hi, bigSep_insert (by simp)]; rfl

/-- The own slot of content `i + 1` when no copy is to come into it. -/
def keep (b : Bool) (i : ℕ) : sProp 𝕄 := if i < lim b then iprop(emp) else free b c (i + 1)

/-- The places of four successive copies. -/
def places (b : Bool) (i : ℕ) : sProp 𝕄 :=
  iprop((sendAt c b i ∗ sendAt c b (i + 1) ∗ sendAt c b (i + 2) ∗ sendAt c b (i + 3))
    ∗ (recvAt c b i ∗ recvAt c b (i + 1) ∗ recvAt c b (i + 2) ∗ recvAt c b (i + 3)))

/-- A direction before its copy `i`. -/
def dir (b : Bool) (i : ℕ) : sProp 𝕄 :=
  iprop(held b c i fullShare (cont kv b c i) ∗ free b c (i + 2) ∗ free b c (i + 3) ∗ keep c b i ∗ bonus b c i
    ∗ places c b i ∗ toks c b i ∗ creds c b i)

/-- Handing on the slot of the opposite direction, or keeping it. -/
theorem hand_on (b : Bool) (i : ℕ) :
    (iprop(free (!b) c (i + 2) ∗ reached ER (recvC (!b) c (i + 1 + 1)) ((i + 1) / 4)) : sProp 𝕄)
      ⊢ iprop(bonus (!b) (tw b c) (i + 1) ∗ keep c (!b) (i + 1)) := by
  unfold bonus keep leave
  rw [tw_not]
  split
  · iintro ⟨H, Hr⟩
    isplitl [H Hr]
    · isplitl [H] <;> iassumption
    iempintro
  · iintro ⟨H, -⟩
    isplitr [H]; · iempintro
    iexact H

/-- The two halves of a slot come together, and the slot is free. -/
theorem slot_back (b : Bool) (i : ℕ) (X : Blk F) :
    (iprop(held b c i fullShare.left X ∗ held b c i fullShare.right X) : sProp 𝕄) ⊢ free b c (i + 4) := by
  rw [free_add_four]
  exact (held_halves b c i X).2.trans (free_of_held b c i X)

/-- A receiver's place, opened. -/
theorem recvAt_open (b : Bool) (i : ℕ) :
    (recvAt c b i : sProp 𝕄) ⊢ iprop(atPos ER (recvC b c (i + 1)) (i / 4) ∅ 0 ∗ reached ER (recvC b c (i + 1)) (i / 4)) := .rfl

/-- A later copy gives back the share of the slot that it was read by. -/
theorem sendPay_pos (b : Bool) {i : ℕ} (hi : i ≠ 0) :
    (sendPay kv b c i : sProp 𝕄) = held b c i fullShare.left (cont kv b c i) := if_neg hi
/-- What a landing gives, opened. -/
theorem recvPay_open (b : Bool) (i : ℕ) :
    (recvPay kv b c i : sProp 𝕄) ⊢ iprop(held b c (i + 1) fullShare (cont kv b c (i + 1)) ∗ bonus (!b) c (i + 1)) := .rfl

/-- If there is another copy to send, the leave for it has come. -/
theorem leave_of_bonus (b : Bool) {i : ℕ} (hi : i < lim b) : (bonus b c i : sProp 𝕄) = leave b c i := if_pos hi

set_option maxHeartbeats 4000000 in
/-- One trip. -/
theorem trip_wp {t : Fin k0_t1_loop.trips} (h2 : k0_chk2 (lit0 c)) (h1 : k0_chk1 (lit1 c)) (q : FVec F S256x512 .f32) (s : St F)
    {Q : StTup F → sProp 𝕄} :
    iprop(invs kv ∗ levAts L lv ∗ dir kv c true (t.val + 1) ∗ dir kv c false (t.val + 1)
        ∗ ow c (owe true c (t.val + 1) + owe false c (t.val + 1)))
      ⊢ iprop(((dir kv c true (t.val + 2) ∗ dir kv c false (t.val + 2) ∗ ow c (owe true c (t.val + 2) + owe false c (t.val + 2)))
            -∗ Q (eat q (cont kv false c (t.val + 1)) (eat q (cont kv true c (t.val + 1)) s)).tup)
          -∗ wp frame (wpE (defs₀ (F := F)) 𝒱₀ (c : Thread nD τ) none) Set.univ
            (trip (mr true) (mr false) (sS true) (sR true) (sS false) (sR false) (lit0 c) h2 (lit1 c) h1 k0_pay114 q t s) Q) := by
  have ht : t.val + 1 < 15 := by have := lt_of_lt_of_eq t.isLt trips_eq; omega
  obtain ⟨i, hi⟩ : ∃ i, i = t.val + 1 := ⟨_, rfl⟩
  have o2 : k0_off2 t = ![i % 4] := by rw [off2_eq, hi]
  have o3 : k0_off3 t = ![(i + 1) % 4] := by rw [off3_eq, hi]
  have o4 : k0_off4 t = ![(i + 1) % 4, 0, 0, 0] := by rw [off4_eq, hi]
  have o5 : k0_off5 t = ![i % 4, 0, 0, 0] := by rw [off5_eq, hi]
  have o6 : k0_off6 t = ![i % 4, 0, 0, 0] := by rw [off6_eq, hi]
  have o7 : k0_off7 t = ![i % 4, 1, 0, 0] := by rw [off7_eq, hi]
  rw [show t.val + 2 = i + 1 by omega, ← hi]
  rw [← hi] at ht
  have hi0 : i ≠ 0 := by omega
  have hT : i < lim true := by have := le_lim true; omega
  have hF : i < lim false := by have := le_lim false; omega
  have oT := owe_step true c hT
  have oF := owe_step false c hF
  clear hi
  unfold dir places eat kk vv
  rw [toks_pop c true hT, toks_pop c false hF, creds_pop c true hT, creds_pop c false hF, leave_of_bonus c true hT, leave_of_bonus c false hF]
  simp only [trip, Prog.lift, Prog.bind_op, Prog.bind_ret, Prog.pure_eq_ret]
  iintro ⟨#HI, #Hlev, ⟨HhT, Hf2T, Hf3T, -, HlvT, ⟨⟨Hs0T, Hs1T, Hs2T, Hs3T⟩, ⟨Hr0T, Hr1T, Hr2T, Hr3T⟩⟩, ⟨Htk0T, HtkT⟩, ⟨Hc0T, HcT⟩⟩,
    ⟨HhF, Hf2F, Hf3F, -, HlvF, ⟨⟨Hs0F, Hs1F, Hs2F, Hs3F⟩, ⟨Hr0F, Hr1F, Hr2F, Hr3F⟩⟩, ⟨Htk0F, HtkF⟩, ⟨Hc0F, HcF⟩⟩, HO⟩ Hk
  ihave HhT := (held_halves true c i _).1 $$ HhT
  icases HhT with ⟨HlT, HrT⟩
  ihave HhF := (held_halves false c i _).1 $$ HhF
  icases HhF with ⟨HlF, HrF⟩
  ihave Hr1T := (recvAt_open c true (i + 1)) $$ Hr1T
  icases Hr1T with ⟨Har1T, #Hrr1T⟩
  ihave Hr1F := (recvAt_open c false (i + 1)) $$ Hr1F
  icases Hr1F with ⟨Har1F, #Hrr1F⟩
  ihave HbT := (hand_on c true i) $$ [Hf2F]
  · isplitl [Hf2F]; · iexact Hf2F
    iexact Hrr1F
  icases HbT with ⟨HbT, HkF⟩
  ihave HbF := (hand_on c false i) $$ [Hf2T]
  · isplitl [Hf2T]; · iexact Hf2T
    iexact Hrr1T
  icases HbF with ⟨HbF, HkT⟩
  -- the copy to the right
  iapply (wp_copy kv c (b := true) hi0 hT o5 o4 (dev5_lit c _) (semAt_congr _ o2 _ _) (semAt_congr _ o3 _ _)
      (owe true c (i + 1) + owe false c i) (O' := owe true c i + owe false c i) (by rw [oT]; abel)) $$ [HlT HlvT HbT HO Htk0T Hs0T]
  · isplitr; · (iapply (invs_send kv c true i); iexact HI)
    isplitr; · (iapply (invs_recv kv (tw true c) true i); iexact HI)
    isplitl [HlT]; · iexact HlT
    isplitl [HlvT]; · iexact HlvT
    isplitl [HbT]; · iexact HbT
    isplitl [HO]; · iexact HO
    isplitl [Htk0T]; · iexact Htk0T
    iexact Hs0T
  iintro ⟨HcsT, HO, Hs0T⟩
  -- the copy to the left
  iapply (wp_copy kv c (b := false) hi0 hF o5 o4 (dev6_lit c _) (semAt_congr _ o2 _ _) (semAt_congr _ o3 _ _)
      (owe true c (i + 1) + owe false c (i + 1)) (O' := owe true c (i + 1) + owe false c i) (by rw [oF]; abel)) $$ [HlF HlvF HbF HO Htk0F Hs0F]
  · isplitr; · (iapply (invs_send kv c false i); iexact HI)
    isplitr; · (iapply (invs_recv kv (tw false c) false i); iexact HI)
    isplitl [HlF]; · iexact HlF
    isplitl [HlvF]; · iexact HlvF
    isplitl [HbF]; · iexact HbF
    isplitl [HO]; · iexact HO
    isplitl [Htk0F]; · iexact Htk0F
    iexact Hs0F
  iintro ⟨HcsF, HO, Hs0F⟩
  -- the loads
  iapply (wp_slab c (b := true) (i := i) o6 (by decide) hk0) $$ HrT; iintro HrT
  iapply (wp_slab c (b := true) (i := i) o7 (by decide) hk1) $$ HrT; iintro HrT
  iapply (wp_slab c (b := false) (i := i) o6 (by decide) hk0) $$ HrF; iintro HrF
  iapply (wp_slab c (b := false) (i := i) o7 (by decide) hk1) $$ HrF; iintro HrF
  -- the waits
  iapply (wp_waitS kv c (b := true) hT (semAt_congr _ o2 _ _) (i + 1) (i + 1) (by rfl)) $$ [HcsT HO Hs0T]
  · isplitr; · (iapply (invs_send kv c true i); iexact HI)
    isplitr; · iexact Hlev
    isplitl [HcsT]; · iexact HcsT
    isplitl [HO] <;> iassumption
  iintro ⟨HO, Hs4T, HpT⟩
  iapply (wp_waitR kv c (b := true) hT (semAt_congr _ o3 _ _) (Nat.lt_add_one i) (Nat.lt_add_one i) (by rfl)) $$ [Hc0T HO Hr0T]
  · isplitr; · (iapply (invs_recv kv c true i); iexact HI)
    isplitr; · iexact Hlev
    isplitl [Hc0T]; · iexact Hc0T
    isplitl [HO] <;> iassumption
  iintro ⟨HO, Hr4T, HqT⟩
  iapply (wp_waitS kv c (b := false) hF (semAt_congr _ o2 _ _) (i + 1) (i + 1) (by rfl)) $$ [HcsF HO Hs0F]
  · isplitr; · (iapply (invs_send kv c false i); iexact HI)
    isplitr; · iexact Hlev
    isplitl [HcsF]; · iexact HcsF
    isplitl [HO] <;> iassumption
  iintro ⟨HO, Hs4F, HpF⟩
  iapply (wp_waitR kv c (b := false) hF (semAt_congr _ o3 _ _) (Nat.lt_add_one i) (Nat.lt_add_one i) (by rfl)) $$ [Hc0F HO Hr0F]
  · isplitr; · (iapply (invs_recv kv c false i); iexact HI)
    isplitr; · iexact Hlev
    isplitl [Hc0F]; · iexact Hc0F
    isplitl [HO] <;> iassumption
  iintro ⟨HO, Hr4F, HqF⟩
  ihave HpT := (Entails.of_eq (sendPay_pos kv c true hi0)) $$ HpT
  ihave HpF := (Entails.of_eq (sendPay_pos kv c false hi0)) $$ HpF
  ihave HqT := (recvPay_open kv c true i) $$ HqT
  ihave HqF := (recvPay_open kv c false i) $$ HqF
  rw [wp_ret]
  icases HqT with ⟨HhT, HbF⟩
  icases HqF with ⟨HhF, HbT⟩
  ihave HfT := (slot_back c true i _) $$ [HpT HrT]
  · isplitl [HpT] <;> iassumption
  ihave HfF := (slot_back c false i _) $$ [HpF HrF]
  · isplitl [HpF] <;> iassumption
  imodintro
  iapply Hk
  isplitl [HhT Hf3T HfT HkT HbT Hs1T Hs2T Hs3T Hs4T Har1T Hr2T Hr3T Hr4T HtkT HcT]
  · isplitl [HhT]; · iexact HhT
    isplitl [Hf3T]; · iexact Hf3T
    isplitl [HfT]; · iexact HfT
    isplitl [HkT]; · iexact HkT
    isplitl [HbT]; · iexact HbT
    isplitl [Hs1T Hs2T Hs3T Hs4T Har1T Hr2T Hr3T Hr4T]
    · isplitl [Hs1T Hs2T Hs3T Hs4T]
      · isplitl [Hs1T]; · iexact Hs1T
        isplitl [Hs2T]; · iexact Hs2T
        isplitl [Hs3T] <;> iassumption
      isplitl [Har1T]
      · unfold recvAt; isplitl [Har1T]; · iexact Har1T
        iexact Hrr1T
      isplitl [Hr2T]; · iexact Hr2T
      isplitl [Hr3T] <;> iassumption
    isplitl [HtkT] <;> iassumption
  isplitl [HhF Hf3F HfF HkF HbF Hs1F Hs2F Hs3F Hs4F Har1F Hr2F Hr3F Hr4F HtkF HcF]
  · isplitl [HhF]; · iexact HhF
    isplitl [Hf3F]; · iexact Hf3F
    isplitl [HfF]; · iexact HfF
    isplitl [HkF]; · iexact HkF
    isplitl [HbF]; · iexact HbF
    isplitl [Hs1F Hs2F Hs3F Hs4F Har1F Hr2F Hr3F Hr4F]
    · isplitl [Hs1F Hs2F Hs3F Hs4F]
      · isplitl [Hs1F]; · iexact Hs1F
        isplitl [Hs2F]; · iexact Hs2F
        isplitl [Hs3F] <;> iassumption
      isplitl [Har1F]
      · unfold recvAt; isplitl [Har1F]; · iexact Har1F
        iexact Hrr1F
      isplitl [Hr2F]; · iexact Hr2F
      isplitl [Hr3F] <;> iassumption
    isplitl [HtkF] <;> iassumption
  iexact HO

end Cert.KernelIdeal.Att

end
-- ==== Proof.TailKI.lean ====
/-
The loop, and what follows it.
-/
module

public import proofs.«01_k».proof.Proof.TripKI

@[expose] public section

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → Blk F) (c : Dev nD)

/-- The state after `n` more blocks from each side. -/
def run (q : FVec F S256x512 .f32) (s : St F) : ℕ → St F
  | 0 => s
  | n + 1 => eat q (cont kv false c (n + 1)) (eat q (cont kv true c (n + 1)) (run q s n))

/-- What the kernel computes: its own block, fifteen from each side, the one across the ring. -/
def result (q : FVec F S256x512 .f32) : St F :=
  eat q (cont kv true c 16) (run kv c q (eat q (kv c) (initSt neg)) 15)

/-- The loop. -/
theorem loop_wp (h2 : k0_chk2 (lit0 c)) (h1 : k0_chk1 (lit1 c)) (q : FVec F S256x512 .f32) (s : St F)
    {β : Type} {K : StTup F → Prog (TpuEff nD τ sig (Elt F) Λ₀ .tc) β} {Q : β → sProp 𝕄} :
    iprop(invs kv ∗ levAts L lv ∗ dir kv c true 1 ∗ dir kv c false 1 ∗ ow c (owe true c 1 + owe false c 1))
      ⊢ iprop(((dir kv c true 15 ∗ dir kv c false 15 ∗ ow c (owe true c 15 + owe false c 15))
            -∗ wp frame (wpE (defs₀ (F := F)) 𝒱₀ (c : Thread nD τ) none) Set.univ (K (run kv c q s 14).tup) Q)
          -∗ wp frame (wpE (defs₀ (F := F)) 𝒱₀ (c : Thread nD τ) none) Set.univ
            (loop (mr true) (mr false) (sS true) (sR true) (sS false) (sR false) (lit0 c) h2 (lit1 c) h1 q s >>= K) Q) := by
  unfold loop
  iintro ⟨#HI, #Hlev, HdT, HdF, HO⟩ Hk
  iapply (Scf.wp_for_bind frame (wpE (defs₀ (F := F)) 𝒱₀ (c : Thread nD τ) none) Set.univ k0_t1_loop.lb k0_t1_loop.ub k0_t1_loop.st k0_t1_ok s.tup
    _ (fun n acc => iprop(invs kv ∗ levAts L lv ∗ dir kv c true (n + 1) ∗ dir kv c false (n + 1)
      ∗ ow c (owe true c (n + 1) + owe false c (n + 1)) ∗ ⌜acc = (run kv c q s n).tup⌝)) (fun t acc => by
        iintro ⟨#HI, #Hlev, HdT, HdF, HO, %ha⟩
        subst ha
        rw [St.ofTup_tup]
        iapply (trip_wp kv c (t := t) h2 h1 q (run kv c q s t.val)) $$ [HdT HdF HO]
        · isplitr; · iexact HI
          isplitr; · iexact Hlev
          isplitl [HdT]; · iexact HdT
          isplitl [HdF] <;> iassumption
        iintro ⟨HdT, HdF, HO⟩
        isplitr; · iexact HI
        isplitr; · iexact Hlev
        isplitl [HdT]; · iexact HdT
        isplitl [HdF]; · iexact HdF
        isplitl [HO]; · iexact HO
        ipureintro; rfl)) $$ [HdT HdF HO]
  · isplitr; · iexact HI
    isplitr; · iexact Hlev
    isplitl [HdT]; · iexact HdT
    isplitl [HdF]; · iexact HdF
    isplitl [HO]; · iexact HO
    ipureintro; rfl
  iintro %acc ⟨-, -, HdT, HdF, HO, %ha⟩
  rw [show Scf.trips k0_t1_loop.lb k0_t1_loop.ub k0_t1_loop.st = 14 from trips_eq] at ha ⊢
  subst ha
  iapply Hk
  isplitl [HdT]; · iexact HdT
  isplitl [HdF]; · iexact HdF
  iexact HO

/-- A free slot depends on its number only up to four. -/
theorem free_mod (b : Bool) (i : ℕ) : (free b c i : sProp 𝕄) = free b c (i % 4) := by
  unfold free
  rw [show slot b i = slot b (i % 4) from slotAt_congr _ (by rw [Nat.mod_mod]) _ _]

/-- A buffer's four slots, each at whatever it holds. -/
def slots (b : Bool) : sProp 𝕄 := iprop(free b c 0 ∗ free b c 1 ∗ free b c 2 ∗ free b c 3)

/-- A staging block held whole. -/
abbrev stgAt (b : Ref sig .tc) (X : b.ty.Contents (Elt F)) : sProp 𝕄 := iprop(((c : Thread nD τ).loc b) ↦{fullShare} X)

/-- The origin of a matrix. -/
theorem zero2 : (![0, 0] : Fin 2 → ℕ) = fun _ => 0 := funext fun a => by fin_cases a <;> rfl

set_option maxHeartbeats 4000000 in
/-- What follows the loop. -/
theorem tail_wp (h2 : k0_chk2 (lit0 c)) (q : FVec F S256x512 .f32) (s : St F) (wo : Vec F S512x512 .f32) (g : Vec F S256x512 .f32)
    {Q : PUnit → sProp 𝕄} :
    iprop(invs kv ∗ levAts L lv ∗ dir kv c true 15 ∗ dir kv c false 15 ∗ ow c (owe true c 15 + owe false c 15)
        ∗ stgAt c cc0_stg4_0 wo ∗ stgAt c cc0_stg6_0 g)
      ⊢ iprop(((slots c true ∗ slots c false ∗ places c true 16 ∗ places c false 15 ∗ ow c (owe true c 16 + owe false c 16)
            ∗ stgAt c cc0_stg4_0 wo
            ∗ stgAt c cc0_stg6_0 (outBlock (eat q (cont kv true c 16) (eat q (cont kv false c 15) (eat q (cont kv true c 15) s))) wo))
            -∗ |={Set.univ}=> Q ⟨⟩)
          -∗ wp frame (wpE (defs₀ (F := F)) 𝒱₀ (c : Thread nD τ) none) Set.univ
            (tail (Memref.whole cc0_stg4_0) (Memref.whole cc0_stg6_0) (mr true) (mr false) (sS true) (sR true) (lit0 c) h2 k0_pay114 q s) Q) := by
  have hT : 15 < lim true := by decide
  have oT := owe_step true c hT
  have oF : owe false c 15 = owe false c 16 := by rw [owe_end false c (by decide), owe_end false c (by decide)]
  have hkeep : (keep c false 15 : sProp 𝕄) = free false c 16 := if_neg (by decide)
  have hbon : (bonus (!true) (tw true c) (15 + 1) : sProp 𝕄) = iprop(emp) := if_neg (by decide)
  unfold dir places eat kk vv slots
  rw [toks_pop c true hT, creds_pop c true hT, leave_of_bonus c true hT, hkeep]
  simp only [tail, Prog.lift, Prog.bind_op, Prog.bind_ret, Prog.pure_eq_ret]
  iintro ⟨#HI, #Hlev, ⟨HhT, Hf2T, Hf3T, -, HlvT, ⟨⟨Hs0T, Hs1T, Hs2T, Hs3T⟩, ⟨Hr0T, Hr1T, Hr2T, Hr3T⟩⟩, ⟨Htk0T, -⟩, ⟨Hc0T, -⟩⟩,
    ⟨HhF, Hf2F, Hf3F, HkF, -, HplF, -, -⟩, HO, Hwo, Hout⟩ Hk
  ihave HhT := (held_halves true c 15 _).1 $$ HhT
  icases HhT with ⟨HlT, HrT⟩
  iapply (wp_copy kv c (b := true) (i := 15) (by decide) hT off9_15 off9_16 (dev7_lit c _) (semAt_congr _ off8_15 _ _) (semAt_congr _ off8_16 _ _)
      (owe true c 16 + owe false c 16) (O' := owe true c 15 + owe false c 15) (by rw [oT, oF]; abel)) $$ [HlT HlvT HO Htk0T Hs0T]
  · isplitr; · (iapply (invs_send kv c true 15); iexact HI)
    isplitr; · (iapply (invs_recv kv (tw true c) true 15); iexact HI)
    isplitl [HlT]; · iexact HlT
    isplitl [HlvT]; · iexact HlvT
    isplitr; · (rw [hbon]; iempintro)
    isplitl [HO]; · iexact HO
    isplitl [Htk0T]; · iexact Htk0T
    iexact Hs0T
  iintro ⟨HcsT, HO, Hs0T⟩
  iapply (wp_slab c (b := true) (i := 15) rfl (by decide) hk0) $$ HrT; iintro HrT
  iapply (wp_slab c (b := true) (i := 15) rfl (by decide) hk1) $$ HrT; iintro HrT
  iapply (wp_slab c (b := false) (i := 15) rfl (by decide) hk0) $$ HhF; iintro HhF
  iapply (wp_slab c (b := false) (i := 15) rfl (by decide) hk1) $$ HhF; iintro HhF
  iapply (wp_waitS kv c (b := true) hT (semAt_congr _ off8_15 _ _) 16 16 (by rfl)) $$ [HcsT HO Hs0T]
  · isplitr; · (iapply (invs_send kv c true 15); iexact HI)
    isplitr; · iexact Hlev
    isplitl [HcsT]; · iexact HcsT
    isplitl [HO] <;> iassumption
  iintro ⟨HO, Hs4T, HpT⟩
  iapply (wp_waitR kv c (b := true) hT (semAt_congr _ off8_16 _ _) (i' := 16) (j' := 16) (by decide) (by decide) (by rfl)) $$ [Hc0T HO Hr0T]
  · isplitr; · (iapply (invs_recv kv c true 15); iexact HI)
    isplitr; · iexact Hlev
    isplitl [Hc0T]; · iexact Hc0T
    isplitl [HO] <;> iassumption
  iintro ⟨HO, Hr4T, HqT⟩
  ihave HpT := (Entails.of_eq (sendPay_pos kv c true (by decide : 15 ≠ 0))) $$ HpT
  ihave HqT := (recvPay_open kv c true 15) $$ HqT
  icases HqT with ⟨HhT, -⟩
  ihave HfT := (slot_back c true 15 _) $$ [HpT HrT]
  · isplitl [HpT] <;> iassumption
  iapply (wp_slab c (b := true) (i := 16) rfl (by decide) hk0) $$ HhT; iintro HhT
  iapply (wp_slab c (b := true) (i := 16) rfl (by decide) hk1) $$ HhT; iintro HhT
  ihave HhT := (free_of_held true c 16 _) $$ HhT
  ihave HhF := (free_of_held false c 15 _) $$ HhF
  iapply (wp_load 𝒱₀ (c : Thread nD τ) none Set.univ (m := Memref.whole cc0_stg4_0) (Finset.subset_univ _)) $$ Hwo; iintro Hwo
  rw [show (Memref.whole cc0_stg4_0 : Memref sig .tc .vmem S512x512 .f32).view.readAt (Elt F)
      (Rect.unit (s := S512x512) ![0, 0] S512x512.size inb_S512x512_S512x512_0_0).toLoadRect wo = wo
    from Memref.readAt_unit_zero (Elt F) cc0_stg4_0 zero2 _ wo]
  iapply (wp_load 𝒱₀ (c : Thread nD τ) none Set.univ (m := Memref.whole cc0_stg6_0) (Finset.subset_univ _)) $$ Hout; iintro Hout
  iapply (wp_store 𝒱₀ (c : Thread nD τ) none Set.univ (m := Memref.whole cc0_stg6_0)
    (r := Rect.unit (s := S256x512) ![0, 0] S256x512.size inb_S256x512_S256x512_0_0) (Mk := Finset.univ) (Finset.subset_univ _)) $$ Hout
  iintro Hout
  rw [show ∀ w, ((Memref.whole cc0_stg6_0 : Memref sig .tc .vmem S256x512 .f32).access
      (Rect.unit (s := S256x512) ![0, 0] S256x512.size inb_S256x512_S256x512_0_0) : View sig .tc _ _ _).write (Elt F) g w Finset.univ = w
    from fun w => Memref.write_access_unit_zero_univ (Elt F) cc0_stg6_0 zero2 _ g w]
  rw [wp_ret]
  iapply Hk
  isplitl [HhT Hf2T Hf3T HfT]
  · isplitl [HhT]; · (iapply (Entails.of_eq (free_mod c true 16)); iexact HhT)
    isplitl [Hf2T]; · (iapply (Entails.of_eq (free_mod c true 17)); iexact Hf2T)
    isplitl [Hf3T]; · (iapply (Entails.of_eq (free_mod c true 18)); iexact Hf3T)
    iapply (Entails.of_eq (free_mod c true 19)); iexact HfT
  isplitl [HhF Hf2F Hf3F HkF]
  · isplitl [HkF]; · (iapply (Entails.of_eq (free_mod c false 16)); iexact HkF)
    isplitl [Hf2F]; · (iapply (Entails.of_eq (free_mod c false 17)); iexact Hf2F)
    isplitl [Hf3F]; · (iapply (Entails.of_eq (free_mod c false 18)); iexact Hf3F)
    iapply (Entails.of_eq (free_mod c false 15)); iexact HhF
  isplitl [Hs1T Hs2T Hs3T Hs4T Hr1T Hr2T Hr3T Hr4T]
  · isplitl [Hs1T Hs2T Hs3T Hs4T]
    · isplitl [Hs1T]; · iexact Hs1T
      isplitl [Hs2T]; · iexact Hs2T
      isplitl [Hs3T] <;> iassumption
    isplitl [Hr1T]; · iexact Hr1T
    isplitl [Hr2T]; · iexact Hr2T
    isplitl [Hr3T] <;> iassumption
  isplitl [HplF]; · iexact HplF
  isplitl [HO]; · iexact HO
  isplitl [Hwo]; · iexact Hwo
  iexact Hout

end Cert.KernelIdeal.Att

end
-- ==== Proof.PreKI.lean ====
/-
The body up to the loop: the tables, the barrier, the first copies, the own block.
-/
module

public import proofs.«01_k».proof.Proof.TailKI
public import Idealize.ShloMosaic.Lib.ValueLayout

@[expose] public section

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → Blk F) (c : Dev nD)

open Idealize.ShloMosaic.ValueIdx (ix2 ix3 ix4 eq_ix2)

/-! ## Reading the tables and the own block -/

/-- The right table's contents. -/
def tabR : Vec F S32 .i32 := fun i => lit0 (S32.rowMajor i)
/-- The left table's contents. -/
def tabL : Vec F S32 .i32 := fun i => lit1 (S32.rowMajor i)

/-- The device's own entry of a table. -/
theorem off1_row (x : S1.Idx) :
    S32.rowMajor ((Rect.unit (s := S32) (k0_off1 c) S1.size (k0_off1_inb c)).emb x) = c := by
  refine Fin.ext ?_
  rw [Shape.rowMajor_val_one]
  have hx : (x 0).val < 1 := (x 0).isLt
  have h : k0_off1 c 0 = c.val := by rw [off1_eq]; rfl
  show k0_off1 c 0 + 1 * (x 0).val = c.val
  omega

/-- The right neighbour, read from its table. -/
theorem tabR_read (x) : ((Memref.whole cc0_stg0_0 : Memref sig .tc .smem S32 .i32).access
    (Rect.unit (s := S32) (k0_off1 c) S1.size (k0_off1_inb c))).read (Elt F) tabR x = lit0 c := by
  show lit0 (S32.rowMajor ((Rect.unit (s := S32) (k0_off1 c) S1.size (k0_off1_inb c)).emb x)) = lit0 c
  rw [off1_row]
/-- The left neighbour, read from its table. -/
theorem tabL_read (x) : ((Memref.whole cc0_stg1_0 : Memref sig .tc .smem S32 .i32).access
    (Rect.unit (s := S32) (k0_off1 c) S1.size (k0_off1_inb c))).read (Elt F) tabL x = lit1 c := by
  show lit1 (S32.rowMajor ((Rect.unit (s := S32) (k0_off1 c) S1.size (k0_off1_inb c)).emb x)) = lit1 c
  rw [off1_row]

/-- A slab of a block as a matrix, entry by entry. -/
theorem flat4_slab (k : Fin 2) (hk) (X : Blk F) (i : Fin 256) (j : Fin 512) :
    flat4 (slab k.val hk X) (ix2 i j) = X (ix3 k i j) := by
  refine (shapeCast_apply _ _ (ix2 i j) (ix4 0 0 i j) ?_).trans ?_
  · rw [Shape.rowMajor_val_two, Shape.rowMajor_val_four]
    show ((0 * 1 + 0) * 256 + i.val) * 512 + j.val = i.val * 512 + j.val
    omega
  unfold slab
  refine shapeCast_apply _ _ _ (ix3 k i j) ?_
  rw [Shape.rowMajor_val_three, Shape.rowMajor_val_four]
  show (k.val * 256 + i.val) * 512 + j.val
    = (((0 + 1 * 0) * 2 + (k.val + 1 * 0)) * 256 + (0 + 1 * i.val)) * 512 + (0 + 1 * j.val)
  omega

/-- A load of the staging block's keys or values is the same matrix. -/
theorem flat3_stage (k : Fin 2) (hk) (h : ∀ a, (![k.val, 0, 0] : Fin 3 → ℕ) a + S1x256x512.size a ≤ S2x256x512.size a) (X : Blk F) :
    flat3 (kvM.view.readAt (Elt F) (Rect.unit (s := S2x256x512) ![k.val, 0, 0] S1x256x512.size h).toLoadRect X)
      = flat4 (slab k.val hk X) := by
  funext x
  obtain ⟨i, j, rfl⟩ : ∃ (i : Fin 256) (j : Fin 512), x = ix2 i j := ⟨x 0, x 1, eq_ix2 x⟩
  rw [flat4_slab]
  refine (shapeCast_apply _ _ (ix2 i j) (ix3 0 i j) ?_).trans ?_
  · rw [Shape.rowMajor_val_two, Shape.rowMajor_val_three]
    show (0 * 256 + i.val) * 512 + j.val = i.val * 512 + j.val
    omega
  show X _ = X _
  refine congrArg X (funext fun a => Fin.ext ?_)
  fin_cases a
  · show k.val + 1 * 0 = k.val; omega
  · show 0 + 1 * i.val = i.val; omega
  · show 0 + 1 * j.val = j.val; omega

/-! ## The barrier and the first copies -/

/-- The barrier's semaphore. -/
abbrev barS : Sem sig := (SemArray.scalar (sig.barrier 0 rfl) : Sems sig S_).sem

/-- The signal to a neighbour, with the leave to write into the signaller's slot. -/
theorem wp_sig {d : Bool} {e : Dev nD} (he : e = tw (!d) c) (O : CellTallies nD τ sig ℕ) {O' : CellTallies nD τ sig ℕ}
    (hO : O' = O + tallyAt (barC (tw (!d) c)) 0 1)
    {α : Type} {Q : α → sProp 𝕄} {K : PUnit → Prog (TpuEff nD τ sig (Elt F) Λ₀ .tc) α} :
    iprop(ci kv (barC (tw (!d) c)) ∗ ow c O' ∗ dutyTok ER (barC (tw (!d) c)) 0 d ∗ (free d c 1 ∗ reached ER (recvC d c 1) 0)
        ∗ reached ER (barC (tw (!d) c)) 0)
      ⊢ iprop((ow c O -∗ wp frame (wpE (defs₀ (F := F)) 𝒱₀ (c : Thread nD τ) none) Set.univ (K ⟨⟩) Q)
          -∗ wp frame (wpE (defs₀ (F := F)) 𝒱₀ (c : Thread nD τ) none) Set.univ
            (.op (.semSignal (Dev.tc e) barS (1#32 : BitVec 32).toInt) K) Q) := by
  subst he
  rw [show (1#32 : BitVec 32).toInt = ((1#32 : BitVec 32).toNat : Int) from rfl]
  unfold ci ow
  iintro ⟨⟨%κ, HI⟩, ⟨%W, HO⟩, Ht, HP, Hr⟩ Hk
  iapply (Rounds.wp_signal 𝒱₀ ER (ringRd kv) (c : Thread nD τ) none (dst := (tw (!d) c : Thread nD τ)) (κ := κ) (r := 0) (d := d)
      (by rw [duties_bar]; cases d <;> decide) (show (ringRd kv).amount (barC (tw (!d) c)) 0 d = (1#32 : BitVec 32).toNat from rfl) 0
      (O₀ := O') O hO) $$ [HI HO Ht HP Hr]
  · isplitl [HI]; · iexact HI
    isplitl [HO]; · iexact HO
    isplitl [Ht]; · iexact Ht
    isplitl [HP]
    · rw [payload_bar]; unfold leave; rw [tw_not']; iexact HP
    iexact Hr
  iintro HO
  iapply Hk
  iexists W; iexact HO

/-- The wait for both neighbours. -/
theorem wp_bar {α : Type} {Q : α → sProp 𝕄} {K : PUnit → Prog (TpuEff nD τ sig (Elt F) Λ₀ .tc) α} :
    iprop(ci kv (barC c) ∗ levAts L lv ∗ cred (tallyAt (barC c) 0 2) ∗ ow c (owe true c 0 + owe false c 0) ∗ atPos ER (barC c) 0 ∅ 0)
      ⊢ iprop(((ow c (owe true c 0 + owe false c 0) ∗ atPos ER (barC c) 1 ∅ 0 ∗ leave true c 0 ∗ leave false c 0)
            -∗ wp frame (wpE (defs₀ (F := F)) 𝒱₀ (c : Thread nD τ) none) Set.univ (K ⟨⟩) Q)
          -∗ wp frame (wpE (defs₀ (F := F)) 𝒱₀ (c : Thread nD τ) none) Set.univ
            (.op (.semWait barS (2#32 : BitVec 32).toInt) K) Q) := by
  rw [show (2#32 : BitVec 32).toInt = ((2#32 : BitVec 32).toNat : Int) from rfl]
  unfold ci ow
  iintro ⟨⟨%κ, #HI⟩, #Hlev, Hc, ⟨%W, HO⟩, Hat⟩ Hk
  iapply (Rounds.wp_wait_rest_token 𝒱₀ ER (ringRd kv) (c : Thread nD τ) none (κ := κ)
      (wpE_semWait_eq 𝒱₀ (c : Thread nD τ) none Set.univ) (Set.mem_univ _) 0 (O := owe true c 0 + owe false c 0) (W := W)
      (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) 0 0 0 (by decide) (show 1 < 0 + 2 by decide) (show 1 < 0 + 2 by decide)); iexact Hlev
    iexact Hat
  rw [Finset.sdiff_empty, duties_bar, bigSep_insert (by decide), bigSep_singleton, payload_bar, payload_bar]
  iintro ⟨HO, Hat, -, HTF⟩
  ihave HTF := (show (BI.sep (leave true c 0) (leave false c 0) : sProp 𝕄) ⊢ iprop(leave true c 0 ∗ leave false c 0) from .rfl) $$ HTF
  icases HTF with ⟨HT, HF⟩
  iapply Hk
  isplitl [HO]; · (iexists _; iexact HO)
  isplitl [Hat]; · iexact Hat
  isplitl [HT] <;> iassumption

/-- The copy out of the staging block. -/
theorem wp_stage {b : Bool} {h4} {d : Dev nD} {s r : DmaSem sig}
    (hd : d = tw b c) (hs : s = semS b 0) (hr : r = semR b 1)
    (O : CellTallies nD τ sig ℕ) {O' : CellTallies nD τ sig ℕ} (hO : O' = O + tallyAt (recvC b (tw b c) 1) 0 NN)
    {w3 w1 w2 hT} {α : Type} {Q : α → sProp 𝕄} {K : PUnit → Prog (TpuEff nD τ sig (Elt F) Λ₀ .tc) α} :
    iprop(ci kv (sendC b c 0) ∗ ci kv (recvC b (tw b c) (0 + 1)) ∗ owns (c : Thread nD τ) kvM (stShare b) (kv c) ∗ leave b c 0
        ∗ bonus (!b) (tw b c) (0 + 1) ∗ ow c O' ∗ (dutyTok ER (sendC b c 0) (0 / 4) true ∗ dutyTok ER (recvC b (tw b c) (0 + 1)) (0 / 4) true)
        ∗ sendAt c b 0)
      ⊢ iprop(((cred (tallyAt (sendC b c 0) 0 NN) ∗ ow c O ∗ sendAt c b 0)
            -∗ wp frame (wpE (defs₀ (F := F)) 𝒱₀ (c : Thread nD τ) none) Set.univ (K ⟨⟩) Q)
          -∗ wp frame (wpE (defs₀ (F := F)) 𝒱₀ (c : Thread nD τ) none) Set.univ
            (.op (.enqueueDma kvM (.remote (Dev.tc d) (slotAt (mr b) ![1, 0, 0, 0] h4) (.dma s) w3) (.dma r) w1 w2 hT) K) Q) := by
  subst hd; subst hs; subst hr
  have hi : 0 < lim b := by cases b <;> decide
  unfold ci ow owns leave free sendAt
  iintro ⟨⟨%κ₁, #HI₁⟩, ⟨%κ₂, #HI₂⟩, ⟨%fs, %hfs, Hs⟩, ⟨⟨%fd, Hd⟩, Hrch⟩, HB, ⟨%W, HO⟩, ⟨Ht₁, Ht₂⟩, Hat, #Hr₁⟩ Hk
  iapply (Rounds.wp_send_pointsTo_with 𝒱₀ ER (ringRd kv) (c : Thread nD τ) none (c' := (tw b c : Thread nD τ))
      (src := kvM) (dst := slot b (0 + 1)) (sS := .dma (semS b 0)) (sem := .dma (semR b (0 + 1))) (fs := fs) (fd := fd) (F := bonus (!b) (tw b c) (0 + 1)) (κ₁ := κ₁) (κ₂ := κ₂)
      (r₁ := 0 / 4) (r₂ := 0 / 4) (d₁ := true) (d₂ := true)
      (by rw [duties_send_at kv b c hi]; exact Finset.mem_singleton_self _)
      (by rw [duties_recv_at kv b (tw b c) hi]; exact Finset.mem_singleton_self _)
      0 0 NN (credit_slot b (0 + 1)) rfl rfl O hO
      (by
        rw [payload_send kv b c 0 true]; unfold sendPay; rw [if_pos rfl]
        unfold owns
        iintro H; iexists fs; isplitr; · (ipureintro; exact hfs)
        iexact H)
      (by
        rw [payload_recv kv b (tw b c) 0 true]; unfold recvPay
        unfold held owns
        iintro ⟨H, HF⟩
        isplitr [HF]
        · iexists _; isplitr
          swap; · iexact H
          ipureintro; rw [View.read_write_univ, hfs, cont_succ]; rfl
        · iexact HF)) $$ [Hs Hd HB HO Ht₁ Ht₂ Hrch]
  · isplitr; · iexact HI₁
    isplitr; · iexact HI₂
    isplitl [Hs]; · iexact Hs
    isplitl [Hd HB]
    · isplitl [Hd]; · iexact Hd
      iexact HB
    isplitl [HO]; · iexact HO
    isplitl [Ht₁]; · iexact Ht₁
    isplitr; · iexact Hr₁
    isplitl [Ht₂]; · iexact Ht₂
    iexact Hrch
  iintro ⟨Hc, HO⟩
  iapply Hk
  isplitl [Hc]; · iexact Hc
  isplitl [HO]; · (iexists W; iexact HO)
  isplitl [Hat]; · iexact Hat
  iexact Hr₁

/-- The first copy gives back the share of the staging block that it was read by. -/
theorem sendPay_zero (b : Bool) : (sendPay kv b c 0 : sProp 𝕄) = owns (c : Thread nD τ) kvM (stShare b) (kv c) := if_pos rfl

/-- The staging block's share, cut in three. -/
theorem stage_split (X : Blk F) : (stgAt c cc0_stg5_0 X : sProp 𝕄)
    ⊣⊢ iprop(owns (c : Thread nD τ) kvM (stShare true) X ∗ owns (c : Thread nD τ) kvM (stShare false) X
      ∗ owns (c : Thread nD τ) kvM fullShare.right.right X) := by
  have e : (stgAt c cc0_stg5_0 X : sProp 𝕄) ⊣⊢ owns (c : Thread nD τ) kvM fullShare X := by
    rw [owns_whole_eq]
    constructor
    · iintro H; iexists X; isplitr; · (ipureintro; rfl)
      iexact H
    · iintro ⟨%f, %hf, H⟩; subst hf; iexact H
  exact e.trans ((owns_halves _ _ _ X).trans (sep_congr_right (owns_halves _ _ _ X)))

/-- A load of one half of the staging block. -/
theorem wp_kvload (k : Fin 2) (hk) {h : ∀ a, (![k.val, 0, 0] : Fin 3 → ℕ) a + S1x256x512.size a ≤ S2x256x512.size a} {X : Blk F}
    {q : PosShare TreeShare} {hl}
    {α : Type} {Q : α → sProp 𝕄} {K : Vec F S1x256x512 .f32 → Prog (TpuEff nD τ sig (Elt F) Λ₀ .tc) α} :
    owns (c : Thread nD τ) kvM q X
      ⊢ iprop((∀ v, ⌜flat3 v = flat4 (slab k.val hk X)⌝ -∗ owns (c : Thread nD τ) kvM q X
              -∗ wp frame (wpE (defs₀ (F := F)) 𝒱₀ (c : Thread nD τ) none) Set.univ (K v) Q)
          -∗ wp frame (wpE (defs₀ (F := F)) 𝒱₀ (c : Thread nD τ) none) Set.univ
            (.op (.load kvM (Rect.unit (s := S2x256x512) ![k.val, 0, 0] S1x256x512.size h).toLoadRect hl) K) Q) := by
  rw [owns_whole_eq]
  iintro ⟨%f, %hf, H⟩ Hk
  subst hf
  iapply (wp_load 𝒱₀ (c : Thread nD τ) none Set.univ (m := kvM) (Finset.subset_univ _)) $$ H
  iintro H
  iapply Hk $$ [] [H]
  · ipureintro; exact flat3_stage k hk h f
  · iexists f; isplitr; · (ipureintro; rfl)
    iexact H

/-- What the body starts from, beside the invariants: its buffers' slots, its places, its tokens and credits, its barrier. -/
def ready : sProp 𝕄 :=
  iprop(slots c true ∗ slots c false ∗ places c true 0 ∗ places c false 0 ∗ (toks c true 0 ∗ creds c true 0) ∗ (toks c false 0 ∗ creds c false 0)
    ∗ atPos ER (barC c) 0 ∅ 0 ∗ cred (tallyAt (barC c) 0 2)
    ∗ (dutyTok ER (barC (pv c)) 0 true ∗ reached ER (barC (pv c)) 0) ∗ (dutyTok ER (barC (nx c)) 0 false ∗ reached ER (barC (nx c)) 0))

/-- What the device owes at the start. -/
def O₀ : CellTallies nD τ sig ℕ :=
  owe true c 0 + owe false c 0 + tallyAt (barC (nx c)) 0 1 + tallyAt (barC (pv c)) 0 1

set_option maxHeartbeats 8000000 in
/-- The body up to the loop. -/
theorem pre_wp (x : Vec F S256x512 .f32) (wq : Vec F S512x512 .f32) {Q : PUnit → sProp 𝕄}
    {G : ∀ (v4 : BitVec 32) (_ : k0_chk2 v4) (v6 : BitVec 32) (_ : k0_chk1 v6), FVec F S256x512 .f32 → St F →
      Prog (TpuEff nD τ sig (Elt F) Λ₀ .tc) PUnit} :
    iprop(invs kv ∗ levAts L lv ∗ ready c ∗ ow c (O₀ c)
        ∗ stgAt c cc0_stg0_0 tabR ∗ stgAt c cc0_stg1_0 tabL ∗ stgAt c cc0_stg2_0 x ∗ stgAt c cc0_stg3_0 wq ∗ stgAt c cc0_stg5_0 (kv c))
      ⊢ iprop((∀ (h2 : k0_chk2 (lit0 c)) (h1 : k0_chk1 (lit1 c)),
            (dir kv c true 1 ∗ dir kv c false 1 ∗ ow c (owe true c 1 + owe false c 1) ∗ atPos ER (barC c) 1 ∅ 0
              ∗ stgAt c cc0_stg0_0 tabR ∗ stgAt c cc0_stg1_0 tabL ∗ stgAt c cc0_stg2_0 x ∗ stgAt c cc0_stg3_0 wq ∗ stgAt c cc0_stg5_0 (kv c))
            -∗ wp frame (wpE (defs₀ (F := F)) 𝒱₀ (c : Thread nD τ) none) Set.univ
              (G (lit0 c) h2 (lit1 c) h1 (queries x wq) (eat (queries x wq) (kv c) (initSt neg))) Q)
          -∗ wp frame (wpE (defs₀ (F := F)) 𝒱₀ (c : Thread nD τ) none) Set.univ
            (canonPre (Memref.whole cc0_stg0_0) (Memref.whole cc0_stg1_0) (Memref.whole cc0_stg2_0) (Memref.whole cc0_stg3_0)
              (Memref.whole cc0_stg5_0) (Memref.isWhole_whole _) (mr true) (mr false) (sS true) (sR true) (sS false) (sR false) G) Q) := by
  have hT : 0 < lim true := by decide
  have hF : 0 < lim false := by decide
  have oT := owe_step true c hT
  have oF := owe_step false c hF
  have e3T := free_mod (F := F) c true 4
  have e3F := free_mod (F := F) c false 4
  unfold ready slots O₀ places
  rw [toks_pop c true hT, toks_pop c false hF, creds_pop c true hT, creds_pop c false hF]
  simp only [canonPre, smemLoad, smemLoadElt, semSignalWord, semWaitWord, Prog.lift, Prog.bind_op, Prog.bind_ret, Prog.pure_eq_ret, Prog.bind_assoc, wp_deviceId]
  iintro ⟨#HI, #Hlev, ⟨⟨Hf0T, Hf1T, Hf2T, Hf3T⟩, ⟨Hf0F, Hf1F, Hf2F, Hf3F⟩, ⟨⟨Hs0T, Hs1T, Hs2T, Hs3T⟩, ⟨Hr0T, Hr1T, Hr2T, Hr3T⟩⟩,
    ⟨⟨Hs0F, Hs1F, Hs2F, Hs3F⟩, ⟨Hr0F, Hr1F, Hr2F, Hr3F⟩⟩, ⟨⟨Htk0T, HtkT⟩, ⟨Hc0T, HcT⟩⟩, ⟨⟨Htk0F, HtkF⟩, ⟨Hc0F, HcF⟩⟩,
    Hat, Hcb, ⟨HtkL, #HrbL⟩, ⟨HtkR, #HrbR⟩⟩, HO, Ht0, Ht1, Hx, Hwq, Hkv⟩ Hk
  iapply (wp_load_rect 𝒱₀ (c : Thread nD τ) none Set.univ (m := Memref.whole cc0_stg0_0) (r := Rect.unit (s := S32) (k0_off1 c) S1.size (k0_off1_inb c))
    (Finset.subset_univ _)) $$ Ht0; iintro Ht0
  rw [tabR_read]
  simp only [wp_assume_of _ _ _ _ (d := k0_chk2.dec _) (chk2_lit c)]
  iapply (wp_load_rect 𝒱₀ (c : Thread nD τ) none Set.univ (m := Memref.whole cc0_stg1_0) (r := Rect.unit (s := S32) (k0_off1 c) S1.size (k0_off1_inb c))
    (Finset.subset_univ _)) $$ Ht1; iintro Ht1
  rw [tabL_read]
  simp only [wp_assume_of _ _ _ _ (d := k0_chk1.dec _) (chk1_lit c)]
  ihave Hr0T := (recvAt_open c true 0) $$ Hr0T
  icases Hr0T with ⟨Har0T, #Hrr0T⟩
  ihave Hr0F := (recvAt_open c false 0) $$ Hr0F
  icases Hr0F with ⟨Har0F, #Hrr0F⟩
  -- the signals
  iapply (wp_sig kv c (d := true) (dev1_lit c _) (owe true c 0 + owe false c 0 + tallyAt (barC (nx c)) 0 1) rfl) $$ [HO HtkL Hf1T]
  · isplitr; · (iapply (invs_bar kv (pv c)); iexact HI)
    isplitl [HO]; · iexact HO
    isplitl [HtkL]; · iexact HtkL
    isplitl [Hf1T]
    · isplitl [Hf1T]; · iexact Hf1T
      iexact Hrr0T
    iexact HrbL
  iintro HO
  iapply (wp_sig kv c (d := false) (dev2_lit c _) (owe true c 0 + owe false c 0) rfl) $$ [HO HtkR Hf1F]
  · isplitr; · (iapply (invs_bar kv (nx c)); iexact HI)
    isplitl [HO]; · iexact HO
    isplitl [HtkR]; · iexact HtkR
    isplitl [Hf1F]
    · isplitl [Hf1F]; · iexact Hf1F
      iexact Hrr0F
    iexact HrbR
  iintro HO
  -- the barrier
  iapply (wp_bar kv c) $$ [Hcb HO Hat]
  · isplitr; · (iapply (invs_bar kv c); iexact HI)
    isplitr; · iexact Hlev
    isplitl [Hcb]; · iexact Hcb
    isplitl [HO] <;> iassumption
  iintro ⟨HO, Hat, HlvT, HlvF⟩
  ihave Hkv := (stage_split c (kv c)).1 $$ Hkv
  icases Hkv with ⟨HkvT, HkvF, Hkv⟩
  ihave Hr1T := (recvAt_open c true 1) $$ Hr1T
  icases Hr1T with ⟨Har1T, #Hrr1T⟩
  ihave Hr1F := (recvAt_open c false 1) $$ Hr1F
  icases Hr1F with ⟨Har1F, #Hrr1F⟩
  ihave HbT := (hand_on c true 0) $$ [Hf2F]
  · isplitl [Hf2F]; · iexact Hf2F
    iexact Hrr1F
  icases HbT with ⟨HbT, HkF⟩
  ihave HbF := (hand_on c false 0) $$ [Hf2T]
  · isplitl [Hf2T]; · iexact Hf2T
    iexact Hrr1T
  icases HbF with ⟨HbF, HkT⟩
  -- the first copies
  iapply (wp_stage kv c (b := true) (dev3_lit c _) (semAt_congr _ rfl _ _) (semAt_congr _ rfl _ _)
      (owe true c 1 + owe false c 0) (O' := owe true c 0 + owe false c 0) (by rw [oT]; abel)) $$ [HkvT HlvT HbT HO Htk0T Hs0T]
  · isplitr; · (iapply (invs_send kv c true 0); iexact HI)
    isplitr; · (iapply (invs_recv kv (tw true c) true 0); iexact HI)
    isplitl [HkvT]; · iexact HkvT
    isplitl [HlvT]; · iexact HlvT
    isplitl [HbT]; · iexact HbT
    isplitl [HO]; · iexact HO
    isplitl [Htk0T]; · iexact Htk0T
    iexact Hs0T
  iintro ⟨HcsT, HO, Hs0T⟩
  iapply (wp_stage kv c (b := false) (dev4_lit c _) (semAt_congr _ rfl _ _) (semAt_congr _ rfl _ _)
      (owe true c 1 + owe false c 1) (O' := owe true c 1 + owe false c 0) (by rw [oF]; abel)) $$ [HkvF HlvF HbF HO Htk0F Hs0F]
  · isplitr; · (iapply (invs_send kv c false 0); iexact HI)
    isplitr; · (iapply (invs_recv kv (tw false c) false 0); iexact HI)
    isplitl [HkvF]; · iexact HkvF
    isplitl [HlvF]; · iexact HlvF
    isplitl [HbF]; · iexact HbF
    isplitl [HO]; · iexact HO
    isplitl [Htk0F]; · iexact Htk0F
    iexact Hs0F
  iintro ⟨HcsF, HO, Hs0F⟩
  -- the loads
  iapply (wp_load 𝒱₀ (c : Thread nD τ) none Set.univ (m := Memref.whole cc0_stg2_0) (Finset.subset_univ _)) $$ Hx; iintro Hx
  rw [show (Memref.whole cc0_stg2_0 : Memref sig .tc .vmem S256x512 .f32).view.readAt (Elt F)
      (Rect.unit (s := S256x512) ![0, 0] S256x512.size inb_S256x512_S256x512_0_0).toLoadRect x = x
    from Memref.readAt_unit_zero (Elt F) cc0_stg2_0 zero2 _ x]
  iapply (wp_load 𝒱₀ (c : Thread nD τ) none Set.univ (m := Memref.whole cc0_stg3_0) (Finset.subset_univ _)) $$ Hwq; iintro Hwq
  rw [show (Memref.whole cc0_stg3_0 : Memref sig .tc .vmem S512x512 .f32).view.readAt (Elt F)
      (Rect.unit (s := S512x512) ![0, 0] S512x512.size inb_S512x512_S512x512_0_0).toLoadRect wq = wq
    from Memref.readAt_unit_zero (Elt F) cc0_stg3_0 zero2 _ wq]
  iapply (wp_kvload c (0 : Fin 2) hk0) $$ Hkv; iintro %kl %hkl Hkv
  iapply (wp_kvload c (1 : Fin 2) hk1) $$ Hkv; iintro %vl %hvl Hkv
  -- the waits
  iapply (wp_waitS kv c (b := true) hT (semAt_congr _ rfl _ _) 1 1 (by rfl)) $$ [HcsT HO Hs0T]
  · isplitr; · (iapply (invs_send kv c true 0); iexact HI)
    isplitr; · iexact Hlev
    isplitl [HcsT]; · iexact HcsT
    isplitl [HO] <;> iassumption
  iintro ⟨HO, Hs4T, HpT⟩
  iapply (wp_waitR kv c (b := true) (i := 0) (i' := 1) (j' := 1) hT (semAt_congr _ rfl _ _) (by decide) (by decide) (by rfl)) $$ [Hc0T HO Har0T]
  · isplitr; · (iapply (invs_recv kv c true 0); iexact HI)
    isplitr; · iexact Hlev
    isplitl [Hc0T]; · iexact Hc0T
    isplitl [HO]; · iexact HO
    unfold recvAt; isplitl [Har0T]; · iexact Har0T
    iexact Hrr0T
  iintro ⟨HO, Hr4T, HqT⟩
  iapply (wp_waitS kv c (b := false) hF (semAt_congr _ rfl _ _) 1 1 (by rfl)) $$ [HcsF HO Hs0F]
  · isplitr; · (iapply (invs_send kv c false 0); iexact HI)
    isplitr; · iexact Hlev
    isplitl [HcsF]; · iexact HcsF
    isplitl [HO] <;> iassumption
  iintro ⟨HO, Hs4F, HpF⟩
  iapply (wp_waitR kv c (b := false) (i := 0) (i' := 1) (j' := 1) hF (semAt_congr _ rfl _ _) (by decide) (by decide) (by rfl)) $$ [Hc0F HO Har0F]
  · isplitr; · (iapply (invs_recv kv c false 0); iexact HI)
    isplitr; · iexact Hlev
    isplitl [Hc0F]; · iexact Hc0F
    isplitl [HO]; · iexact HO
    unfold recvAt; isplitl [Har0F]; · iexact Har0F
    iexact Hrr0F
  iintro ⟨HO, Hr4F, HqF⟩
  ihave HpT := (Entails.of_eq (sendPay_zero kv c true)) $$ HpT
  ihave HpF := (Entails.of_eq (sendPay_zero kv c false)) $$ HpF
  ihave HqT := (recvPay_open kv c true 0) $$ HqT
  ihave HqF := (recvPay_open kv c false 0) $$ HqF
  icases HqT with ⟨HhT, HbF⟩
  icases HqF with ⟨HhF, HbT⟩
  ihave Hkv := (stage_split c (kv c)).2 $$ [HpT HpF Hkv]
  · isplitl [HpT]; · iexact HpT
    isplitl [HpF] <;> iassumption
  rw [hkl, hvl]
  iapply Hk $$ %(chk2_lit c) %(chk1_lit c)
  isplitl [HhT Hf3T Hf0T HkT HbT Hs1T Hs2T Hs3T Hs4T Har1T Hr2T Hr3T Hr4T HtkT HcT]
  · unfold dir places
    isplitl [HhT]; · iexact HhT
    isplitl [Hf3T]; · iexact Hf3T
    isplitl [Hf0T]; · (iapply (Entails.of_eq e3T.symm); iexact Hf0T)
    isplitl [HkT]; · iexact HkT
    isplitl [HbT]; · iexact HbT
    isplitl [Hs1T Hs2T Hs3T Hs4T Har1T Hr2T Hr3T Hr4T]
    · isplitl [Hs1T Hs2T Hs3T Hs4T]
      · isplitl [Hs1T]; · iexact Hs1T
        isplitl [Hs2T]; · iexact Hs2T
        isplitl [Hs3T] <;> iassumption
      isplitl [Har1T]
      · unfold recvAt; isplitl [Har1T]; · iexact Har1T
        iexact Hrr1T
      isplitl [Hr2T]; · iexact Hr2T
      isplitl [Hr3T] <;> iassumption
    isplitl [HtkT] <;> iassumption
  isplitl [HhF Hf3F Hf0F HkF HbF Hs1F Hs2F Hs3F Hs4F Har1F Hr2F Hr3F Hr4F HtkF HcF]
  · unfold dir places
    isplitl [HhF]; · iexact HhF
    isplitl [Hf3F]; · iexact Hf3F
    isplitl [Hf0F]; · (iapply (Entails.of_eq e3F.symm); iexact Hf0F)
    isplitl [HkF]; · iexact HkF
    isplitl [HbF]; · iexact HbF
    isplitl [Hs1F Hs2F Hs3F Hs4F Har1F Hr2F Hr3F Hr4F]
    · isplitl [Hs1F Hs2F Hs3F Hs4F]
      · isplitl [Hs1F]; · iexact Hs1F
        isplitl [Hs2F]; · iexact Hs2F
        isplitl [Hs3F] <;> iassumption
      isplitl [Har1F]
      · unfold recvAt; isplitl [Har1F]; · iexact Har1F
        iexact Hrr1F
      isplitl [Hr2F]; · iexact Hr2F
      isplitl [Hr3F] <;> iassumption
    isplitl [HtkF] <;> iassumption
  isplitl [HO]; · iexact HO
  isplitl [Hat]; · iexact Hat
  isplitl [Ht0]; · iexact Ht0
  isplitl [Ht1]; · iexact Ht1
  isplitl [Hx]; · iexact Hx
  isplitl [Hwq]; · iexact Hwq
  iexact Hkv

end Cert.KernelIdeal.Att

end
-- ==== Proof.BodyKI.lean ====
/-
The whole body: the buffers cut in slots, the semaphores closed, the value stored.
-/
module

public import proofs.«01_k».proof.Proof.PreKI

@[expose] public section

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → Blk F) (c : Dev nD)

/-! ## The buffers and their slots -/

/-- A separating conjunction over four. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The elements of slot `k`. -/
def slotSet (k : Fin 4) : Finset S4x2x256x512.Idx :=
  (Rect.unit (s := S4x2x256x512) ![k.val % 4, 0, 0, 0] S1x2x256x512.size (slot_inb k.val)).set

/-- Two different slots share no index. -/
theorem slotSet_disjoint (k k' : Fin 4) (h : k ≠ k') : Disjoint (slotSet k) (slotSet k') :=
  Ring.lead_disjoint (s := S4x2x256x512) (NB := 4) 0 1 (fun k => ![k.val % 4, 0, 0, 0]) S1x2x256x512.size (fun k => slot_inb k.val)
    (by decide) rfl k k' h
/-- The four slots are the whole buffer. -/
theorem slotSet_cover : Finset.univ.biUnion slotSet = Finset.univ :=
  Ring.lead_cover (s := S4x2x256x512) (NB := 4) 0 1 (fun k => ![k.val % 4, 0, 0, 0]) S1x2x256x512.size (fun k => slot_inb k.val)
    (by decide) (by decide) rfl (by decide) (by decide)

/-- A rightward slot's indices. -/
theorem slot_set_true (k : Fin 4) : (slot true k.val).view.set = slotSet k := by
  show (((View.whole cc0_scratch0).slice _).reshape _ _).set = _
  rw [View.set_reshape, View.set_slice_whole]; rfl
/-- A leftward slot's indices. -/
theorem slot_set_false (k : Fin 4) : (slot false k.val).view.set = slotSet k := by
  show (((View.whole cc0_scratch1).slice _).reshape _ _).set = _
  rw [View.set_reshape, View.set_slice_whole]; rfl

/-- The four slots as one product over their numbers. -/
theorem slots_eq (b : Bool) : (slots c b : sProp 𝕄) = bigSep Finset.univ fun k : Fin 4 => free b c k.val := by
  rw [bigSep_four]; rfl

/-- A free rightward slot is its indices' part of the buffer, with some contents. -/
theorem free_true (k : Fin 4) : (free true c k.val : sProp 𝕄)
    = iprop(∃ f, (((c : Thread nD τ).loc cc0_scratch0) ↦[slotSet k]{fullShare} f)) := by
  unfold free; rw [slot_set_true]; rfl
/-- A free leftward slot likewise. -/
theorem free_false (k : Fin 4) : (free false c k.val : sProp 𝕄)
    = iprop(∃ f, (((c : Thread nD τ).loc cc0_scratch1) ↦[slotSet k]{fullShare} f)) := by
  unfold free; rw [slot_set_false]; rfl

/-- The rightward buffer is its four slots. -/
theorem cut_true : (iprop(∃ f : Buf (Elt F) ((c : Thread nD τ).loc cc0_scratch0), ((c : Thread nD τ).loc cc0_scratch0) ↦{fullShare} f) : sProp 𝕄)
    ⊢ slots c true := by
  rw [slots_eq]
  iintro ⟨%f, H⟩
  ihave H := (Entails.of_eq (Ring.pointsTo_blocks (ℓ := (c : Thread nD τ).loc cc0_scratch0) slotSet slotSet_disjoint slotSet_cover f)) $$ H
  iapply (show (bigSep Finset.univ fun k : Fin 4 => (((c : Thread nD τ).loc cc0_scratch0) ↦[slotSet k]{fullShare} f) : sProp 𝕄)
      ⊢ bigSep Finset.univ fun k : Fin 4 => free true c k.val from
    bigSep_mono fun k _ => (show ((((c : Thread nD τ).loc cc0_scratch0) ↦[slotSet k]{fullShare} f) : sProp 𝕄) ⊢ free true c k.val from by
      rw [free_true]; iintro H; iexists f; iexact H)) $$ H
/-- The leftward buffer is its four slots. -/
theorem cut_false : (iprop(∃ f : Buf (Elt F) ((c : Thread nD τ).loc cc0_scratch1), ((c : Thread nD τ).loc cc0_scratch1) ↦{fullShare} f) : sProp 𝕄)
    ⊢ slots c false := by
  rw [slots_eq]
  iintro ⟨%f, H⟩
  ihave H := (Entails.of_eq (Ring.pointsTo_blocks (ℓ := (c : Thread nD τ).loc cc0_scratch1) slotSet slotSet_disjoint slotSet_cover f)) $$ H
  iapply (show (bigSep Finset.univ fun k : Fin 4 => (((c : Thread nD τ).loc cc0_scratch1) ↦[slotSet k]{fullShare} f) : sProp 𝕄)
      ⊢ bigSep Finset.univ fun k : Fin 4 => free false c k.val from
    bigSep_mono fun k _ => (show ((((c : Thread nD τ).loc cc0_scratch1) ↦[slotSet k]{fullShare} f) : sProp 𝕄) ⊢ free false c k.val from by
      rw [free_false]; iintro H; iexists f; iexact H)) $$ H

/-- The four rightward slots are the buffer again. -/
theorem join_true : (slots c true : sProp 𝕄)
    ⊢ iprop(∃ f : Buf (Elt F) ((c : Thread nD τ).loc cc0_scratch0), ((c : Thread nD τ).loc cc0_scratch0) ↦{fullShare} f) := by
  rw [slots_eq, bigSep_congr fun k _ => free_true c k]
  exact Ring.pointsTo_blocks_join_exists (ℓ := (c : Thread nD τ).loc cc0_scratch0) slotSet slotSet_disjoint slotSet_cover
    (fun _ => (FloatOps.ofBits .f32 0 : F .f32))
/-- The four leftward slots are the buffer again. -/
theorem join_false : (slots c false : sProp 𝕄)
    ⊢ iprop(∃ f : Buf (Elt F) ((c : Thread nD τ).loc cc0_scratch1), ((c : Thread nD τ).loc cc0_scratch1) ↦{fullShare} f) := by
  rw [slots_eq, bigSep_congr fun k _ => free_false c k]
  exact Ring.pointsTo_blocks_join_exists (ℓ := (c : Thread nD τ).loc cc0_scratch1) slotSet slotSet_disjoint slotSet_cover
    (fun _ => (FloatOps.ofBits .f32 0 : F .f32))

/-! ## Closing the cells -/

/-- After its last copy a sending semaphore can be closed, at zero. -/
theorem close_send (b : Bool) {i : ℕ} (hi : lim b ≤ i) :
    iprop(invs kv ∗ sendAt c b i) ⊢ (|={Set.univ}=> semVal (sendC b c (i % 4)) 0 : sProp 𝕄) := by
  rw [sendC_mod]
  unfold sendAt
  iintro ⟨#HI, ⟨Hat, -⟩⟩
  ihave HC := (invs_send kv c b i) $$ HI
  unfold ci
  icases HC with ⟨%κ, HC⟩
  iapply (Rounds.cell_close ER (ringRd kv) (Set.mem_univ κ) (fun h => h) (R := i / 4) (duties_send_later kv b c hi))
  isplitl [HC] <;> iassumption
/-- After its last copy a receiving semaphore can be closed, at zero. -/
theorem close_recv (b : Bool) {i : ℕ} (hi : lim b ≤ i) :
    iprop(invs kv ∗ recvAt c b i) ⊢ (|={Set.univ}=> semVal (recvC b c (i % 4 + 1)) 0 : sProp 𝕄) := by
  rw [recvC_mod]
  unfold recvAt
  iintro ⟨#HI, ⟨Hat, -⟩⟩
  ihave HC := (invs_recv kv c b i) $$ HI
  unfold ci
  icases HC with ⟨%κ, HC⟩
  iapply (Rounds.cell_close ER (ringRd kv) (Set.mem_univ κ) (fun h => h) (R := i / 4) (duties_recv_later kv b c hi))
  isplitl [HC] <;> iassumption
/-- After its one round the barrier can be closed, at zero. -/
theorem close_bar : iprop(invs kv ∗ atPos ER (barC c) 1 ∅ 0) ⊢ (|={Set.univ}=> semVal (barC c) 0 : sProp 𝕄) := by
  iintro ⟨#HI, Hat⟩
  ihave HC := (invs_bar kv c) $$ HI
  unfold ci
  icases HC with ⟨%κ, HC⟩
  iapply (Rounds.cell_close ER (ringRd kv) (Set.mem_univ κ) (fun h => h) (R := 1) (duties_bar_later kv c))
  isplitl [HC] <;> iassumption

/-- A direction's eight counters, at zero. -/
def zeros (b : Bool) : sProp 𝕄 :=
  bigSep Finset.univ fun k : Fin 4 => iprop(semVal (sendC b c k.val) 0 ∗ semVal (recvC b c (k.val + 1)) 0)

/-- The two semaphores of one slot, closed together. -/
theorem close_one (b : Bool) {i : ℕ} (hi : lim b ≤ i) (k : ℕ) (hk : i % 4 = k) :
    iprop(invs kv ∗ sendAt c b i ∗ recvAt c b i)
      ⊢ (|={Set.univ}=> iprop(semVal (sendC b c k) 0 ∗ semVal (recvC b c (k + 1)) 0) : sProp 𝕄) := by
  subst hk
  iintro ⟨#HI, Hs, Hr⟩
  imod (close_send kv c b hi) $$ [Hs] with Hs
  · isplitr; · iexact HI
    iexact Hs
  imod (close_recv kv c b hi) $$ [Hr] with Hr
  · isplitr; · iexact HI
    iexact Hr
  imodintro
  isplitl [Hs] <;> iassumption

/-- All eight semaphores of the rightward direction, closed. -/
theorem close_true : iprop(invs kv ∗ places c true 16) ⊢ (|={Set.univ}=> zeros c true : sProp 𝕄) := by
  unfold zeros places
  rw [bigSep_four]
  iintro ⟨#HI, ⟨⟨Hs0, Hs1, Hs2, Hs3⟩, ⟨Hr0, Hr1, Hr2, Hr3⟩⟩⟩
  imod (close_one kv c true (i := 16) (by decide) 0 rfl) $$ [Hs0 Hr0] with H0
  · isplitr; · iexact HI
    isplitl [Hs0] <;> iassumption
  imod (close_one kv c true (i := 17) (by decide) 1 rfl) $$ [Hs1 Hr1] with H1
  · isplitr; · iexact HI
    isplitl [Hs1] <;> iassumption
  imod (close_one kv c true (i := 18) (by decide) 2 rfl) $$ [Hs2 Hr2] with H2
  · isplitr; · iexact HI
    isplitl [Hs2] <;> iassumption
  imod (close_one kv c true (i := 19) (by decide) 3 rfl) $$ [Hs3 Hr3] with H3
  · isplitr; · iexact HI
    isplitl [Hs3] <;> iassumption
  imodintro
  isplitl [H0]; · iexact H0
  isplitl [H1]; · iexact H1
  isplitl [H2]; · iexact H2
  iexact H3
/-- All eight semaphores of the leftward direction, closed. -/
theorem close_false : iprop(invs kv ∗ places c false 15) ⊢ (|={Set.univ}=> zeros c false : sProp 𝕄) := by
  unfold zeros places
  rw [bigSep_four]
  iintro ⟨#HI, ⟨⟨Hs0, Hs1, Hs2, Hs3⟩, ⟨Hr0, Hr1, Hr2, Hr3⟩⟩⟩
  imod (close_one kv c false (i := 15) (by decide) 3 rfl) $$ [Hs0 Hr0] with H0
  · isplitr; · iexact HI
    isplitl [Hs0] <;> iassumption
  imod (close_one kv c false (i := 16) (by decide) 0 rfl) $$ [Hs1 Hr1] with H1
  · isplitr; · iexact HI
    isplitl [Hs1] <;> iassumption
  imod (close_one kv c false (i := 17) (by decide) 1 rfl) $$ [Hs2 Hr2] with H2
  · isplitr; · iexact HI
    isplitl [Hs2] <;> iassumption
  imod (close_one kv c false (i := 18) (by decide) 2 rfl) $$ [Hs3 Hr3] with H3
  · isplitr; · iexact HI
    isplitl [Hs3] <;> iassumption
  imodintro
  isplitl [H1]; · iexact H1
  isplitl [H2]; · iexact H2
  isplitl [H3]; · iexact H3
  iexact H0

/-! ## The body -/

/-- The scratch buffers, at whatever they hold. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What the launch gives the body. -/
def start : sProp 𝕄 :=
  iprop(places c true 0 ∗ places c false 0 ∗ (toks c true 0 ∗ creds c true 0) ∗ (toks c false 0 ∗ creds c false 0)
    ∗ atPos ER (barC c) 0 ∅ 0 ∗ cred (tallyAt (barC c) 0 2)
    ∗ (dutyTok ER (barC (pv c)) 0 true ∗ reached ER (barC (pv c)) 0) ∗ (dutyTok ER (barC (nx c)) 0 false ∗ reached ER (barC (nx c)) 0))

/-- The block a device stores. -/
def outOf (x : Vec F S256x512 .f32) (wq wo : Vec F S512x512 .f32) : Vec F S256x512 .f32 :=
  outBlock (result kv c (queries x wq)) wo

set_option maxHeartbeats 4000000 in
/-- The body. -/
theorem body_wp (x : Vec F S256x512 .f32) (wq wo : Vec F S512x512 .f32) (g : Vec F S256x512 .f32) {Q : PUnit → sProp 𝕄} :
    iprop(invs kv ∗ levAts L lv ∗ scr c ∗ start c ∗ ow c (O₀ c)
        ∗ stgAt c cc0_stg0_0 tabR ∗ stgAt c cc0_stg1_0 tabL ∗ stgAt c cc0_stg2_0 x ∗ stgAt c cc0_stg3_0 wq ∗ stgAt c cc0_stg4_0 wo
        ∗ stgAt c cc0_stg5_0 (kv c) ∗ stgAt c cc0_stg6_0 g)
      ⊢ iprop(((scr c ∗ semVal (barC c) 0 ∗ zeros c true ∗ zeros c false ∗ ow c 0
            ∗ stgAt c cc0_stg0_0 tabR ∗ stgAt c cc0_stg1_0 tabL ∗ stgAt c cc0_stg2_0 x ∗ stgAt c cc0_stg3_0 wq ∗ stgAt c cc0_stg4_0 wo
            ∗ stgAt c cc0_stg5_0 (kv c) ∗ stgAt c cc0_stg6_0 (outOf kv c x wq wo)) -∗ Q ⟨⟩)
          -∗ wp frame (wpE (defs₀ (F := F)) 𝒱₀ (c : Thread nD τ) none) Set.univ
            (canon (Memref.whole cc0_stg0_0) (Memref.whole cc0_stg1_0) (Memref.whole cc0_stg2_0) (Memref.whole cc0_stg3_0)
              (Memref.whole cc0_stg4_0) (Memref.whole cc0_stg5_0) (Memref.isWhole_whole _) (Memref.whole cc0_stg6_0)
              (mr true) (mr false) (sS true) (sR true) (sS false) (sR false)) Q) := by
  have hend : owe true c 16 + owe false c 16 = 0 := by rw [owe_end true c (by decide), owe_end false c (by decide), add_zero]
  unfold canon scr start
  iintro ⟨#HI, #Hlev, ⟨HsT, HsF⟩, Hst, HO, Ht0, Ht1, Hx, Hwq, Hwo, Hkv, Hout⟩ Hk
  ihave HsT := (cut_true c) $$ HsT
  ihave HsF := (cut_false c) $$ HsF
  iapply (pre_wp kv c x wq) $$ [HsT HsF Hst HO Ht0 Ht1 Hx Hwq Hkv]
  · isplitr; · iexact HI
    isplitr; · iexact Hlev
    isplitl [HsT HsF Hst]
    · unfold ready
      isplitl [HsT]; · iexact HsT
      isplitl [HsF]; · iexact HsF
      iexact Hst
    isplitl [HO]; · iexact HO
    isplitl [Ht0]; · iexact Ht0
    isplitl [Ht1]; · iexact Ht1
    isplitl [Hx]; · iexact Hx
    isplitl [Hwq] <;> iassumption
  iintro %h2 %h1 ⟨HdT, HdF, HO, Hat, Ht0, Ht1, Hx, Hwq, Hkv⟩
  iapply (loop_wp kv c h2 h1 (queries x wq) (eat (queries x wq) (kv c) (initSt neg))) $$ [HdT HdF HO]
  · isplitr; · iexact HI
    isplitr; · iexact Hlev
    isplitl [HdT]; · iexact HdT
    isplitl [HdF] <;> iassumption
  iintro ⟨HdT, HdF, HO⟩
  rw [St.ofTup_tup]
  iapply (tail_wp kv c h2 (queries x wq) (run kv c (queries x wq) (eat (queries x wq) (kv c) (initSt neg)) 14) wo g) $$ [HdT HdF HO Hwo Hout]
  · isplitr; · iexact HI
    isplitr; · iexact Hlev
    isplitl [HdT]; · iexact HdT
    isplitl [HdF]; · iexact HdF
    isplitl [HO]; · iexact HO
    isplitl [Hwo] <;> iassumption
  rw [hend]
  iintro ⟨HsT, HsF, HpT, HpF, HO, Hwo, Hout⟩
  imod (close_bar kv c) $$ [Hat] with Hb
  · isplitr; · iexact HI
    iexact Hat
  imod (close_true kv c) $$ [HpT] with HzT
  · isplitr; · iexact HI
    iexact HpT
  imod (close_false kv c) $$ [HpF] with HzF
  · isplitr; · iexact HI
    iexact HpF
  imodintro
  iapply Hk
  isplitl [HsT HsF]
  · isplitl [HsT]; · (iapply (join_true c); iexact HsT)
    iapply (join_false c); iexact HsF
  isplitl [Hb]; · iexact Hb
  isplitl [HzT]; · iexact HzT
  isplitl [HzF]; · iexact HzF
  isplitl [HO]; · iexact HO
  isplitl [Ht0]; · iexact Ht0
  isplitl [Ht1]; · iexact Ht1
  isplitl [Hx]; · iexact Hx
  isplitl [Hwq]; · iexact Hwq
  isplitl [Hwo]; · iexact Hwo
  isplitl [Hkv]; · iexact Hkv
  iexact Hout

end Cert.KernelIdeal.Att

end
-- ==== Proof.FundKI.lean ====
/-
What the launch deals: the cells of the kernel's own semaphores, the duties, and the credit.
-/
module

public import proofs.«01_k».proof.Proof.BodyKI
public import Idealize.ShloMosaic.Lib.Pipeline.TalkSites

@[expose] public section

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → Blk F)

/-! ## The semaphores and the duties -/

/-- The barrier semaphore. -/
abbrev barSem : SemLoc sig := .reg (SemArray.scalar (sig.barrier 0 rfl) : Sems sig S_).sem

/-- The kernel's own semaphores: a direction's four on the sender, its four on the receiver. -/
def osem : Bool × Bool × Fin 4 → SemLoc sig
  | (b, false, k) => .dma (semS b k.val)
  | (b, true, k) => .dma (semR b (k.val + 1))

/-- Different numbers name different semaphores. -/
theorem osem_inj : Function.Injective osem := by decide +kernel

/-- The duty of copy `k` on its sender's cell. -/
def sendT (b : Bool) (c : Dev nD) : ℕ ↪ GSem nD τ sig × ℕ × Bool :=
  ⟨fun k => (sendC b c k, k / 4, true), fun k k' h => by
    have h1 : semS b k = semS b k' := SemLoc.dma.inj (congrArg (fun x : GSem nD τ sig × ℕ × Bool => x.1.2) h)
    have h2 : k / 4 = k' / 4 := congrArg (fun x : GSem nD τ sig × ℕ × Bool => x.2.1) h
    have h3 := congrArg Fin.val h1
    rw [semS_val, semS_val] at h3
    omega⟩
/-- The duty of copy `k` on its receiver's cell. -/
def recvT (b : Bool) (c : Dev nD) : ℕ ↪ GSem nD τ sig × ℕ × Bool :=
  ⟨fun k => (recvC b (tw b c) (k + 1), k / 4, true), fun k k' h => by
    have h1 : semR b (k + 1) = semR b (k' + 1) := SemLoc.dma.inj (congrArg (fun x : GSem nD τ sig × ℕ × Bool => x.1.2) h)
    have h2 : k / 4 = k' / 4 := congrArg (fun x : GSem nD τ sig × ℕ × Bool => x.2.1) h
    have h3 := congrArg Fin.val h1
    rw [semR_val, semR_val] at h3
    omega⟩

/-- The six kinds of duty. -/
def kind (x : GSem nD τ sig × ℕ × Bool) : ℕ := match x.1.2 with
  | .reg _ => if x.2.2 then 4 else 5
  | .dma k => (if isRecv k.val then 2 else 0) + (if dirOf k.val then 1 else 0)

/-- The device that pays a duty. -/
def payer (x : GSem nD τ sig × ℕ × Bool) : Dev nD := match x.1.2 with
  | .reg _ => tw x.2.2 x.1.1.1
  | .dma k => if isRecv k.val then tw (!dirOf k.val) x.1.1.1 else x.1.1.1

/-- The kind of a sender's token. -/
theorem kind_send (b : Bool) (c : Dev nD) (k : ℕ) : kind (sendT b c k) = if b then 1 else 0 := by
  show (if isRecv (semS b k).val then 2 else 0) + (if dirOf (semS b k).val then 1 else 0) = _
  rw [semS_val]; unfold isRecv dirOf
  have h : k % 4 < 4 := Nat.mod_lt _ (by decide)
  generalize k % 4 = j at h
  interval_cases j <;> cases b <;> rfl
/-- The kind of a receiver's token. -/
theorem kind_recv (b : Bool) (c : Dev nD) (k : ℕ) : kind (recvT b c k) = if b then 3 else 2 := by
  show (if isRecv (semR b (k + 1)).val then 2 else 0) + (if dirOf (semR b (k + 1)).val then 1 else 0) = _
  rw [semR_val]; unfold isRecv dirOf
  have h : (k + 1) % 4 < 4 := Nat.mod_lt _ (by decide)
  generalize (k + 1) % 4 = j at h
  interval_cases j <;> cases b <;> rfl
/-- A sender's token is paid by the sender. -/
theorem payer_send (b : Bool) (c : Dev nD) (k : ℕ) : payer (sendT b c k) = c := by
  show (if isRecv (semS b k).val then tw (!dirOf (semS b k).val) c else c) = c
  rw [if_neg]
  rw [semS_val]; unfold isRecv
  have h : k % 4 < 4 := Nat.mod_lt _ (by decide)
  generalize k % 4 = j at h
  interval_cases j <;> cases b <;> decide
/-- The token for a landing is paid by the device that sends the copy. -/
theorem payer_recv (b : Bool) (c : Dev nD) (k : ℕ) : payer (recvT b c k) = c := by
  show (if isRecv (semR b (k + 1)).val then tw (!dirOf (semR b (k + 1)).val) (tw b c) else tw b c) = c
  have h1 : isRecv (semR b (k + 1)).val = true ∧ dirOf (semR b (k + 1)).val = b := by
    rw [semR_val]; unfold isRecv dirOf
    have h : (k + 1) % 4 < 4 := Nat.mod_lt _ (by decide)
    generalize (k + 1) % 4 = j at h
    interval_cases j <;> cases b <;> decide
  rw [h1.1, h1.2, if_pos rfl, tw_not]

/-- The copies of a direction. -/
abbrev cp (b : Bool) : Finset ℕ := Finset.Ico 0 (lim b)

/-- What device `c` pays. -/
def mine (c : Dev nD) : Finset (GSem nD τ sig × ℕ × Bool) :=
  (cp true).map (sendT true c) ∪ ((cp true).map (recvT true c) ∪ ((cp false).map (sendT false c) ∪ ((cp false).map (recvT false c)
    ∪ ({(barC (pv c), 0, true)} ∪ {(barC (nx c), 0, false)}))))

/-- Every token of a device is paid by that device. -/
theorem payer_mine (c : Dev nD) : ∀ x ∈ mine c, payer x = c := by
  intro x hx
  unfold mine at hx
  simp only [Finset.mem_union, Finset.mem_map, Finset.mem_singleton] at hx
  rcases hx with ⟨k, -, rfl⟩ | ⟨k, -, rfl⟩ | ⟨k, -, rfl⟩ | ⟨k, -, rfl⟩ | rfl | rfl
  · exact payer_send true c k
  · exact payer_recv true c k
  · exact payer_send false c k
  · exact payer_recv false c k
  · exact nx_pv c
  · exact pv_nx c

/-- Sets of tokens told apart by their kind are disjoint. -/
theorem disj_kind {s t : Finset (GSem nD τ sig × ℕ × Bool)} (P : ℕ → Prop) (hs : ∀ x ∈ s, ¬ P (kind x)) (ht : ∀ x ∈ t, P (kind x)) : Disjoint s t :=
  Finset.disjoint_left.mpr fun x h h' => hs x h (ht x h')

/-- The duties of a device, sorted. -/
theorem mine_split (c : Dev nD) : (bigSep (mine c) fun x => (dutyTok ER x.1 x.2.1 x.2.2 : sProp 𝕄))
    ⊢ iprop(toks c true 0 ∗ toks c false 0 ∗ dutyTok ER (barC (pv c)) 0 true ∗ dutyTok ER (barC (nx c)) 0 false) := by
  have d5 : Disjoint ({(barC (pv c), 0, true)} : Finset (GSem nD τ sig × ℕ × Bool)) {(barC (nx c), 0, false)} :=
    Finset.disjoint_singleton.mpr fun h => Bool.noConfusion (congrArg (fun x : GSem nD τ sig × ℕ × Bool => x.2.2) h)
  have k5 : ∀ x ∈ (({(barC (pv c), 0, true)} : Finset (GSem nD τ sig × ℕ × Bool)) ∪ {(barC (nx c), 0, false)}), 4 ≤ kind x := by
    intro x hx
    simp only [Finset.mem_union, Finset.mem_singleton] at hx
    rcases hx with rfl | rfl
    · exact le_refl 4
    · exact (by decide : 4 ≤ 5)
  have kr (b : Bool) : ∀ x ∈ (cp b).map (recvT b c), kind x = if b then 3 else 2 := by
    intro x hx; obtain ⟨k, -, rfl⟩ := Finset.mem_map.mp hx; exact kind_recv b c k
  have ks (b : Bool) : ∀ x ∈ (cp b).map (sendT b c), kind x = if b then 1 else 0 := by
    intro x hx; obtain ⟨k, -, rfl⟩ := Finset.mem_map.mp hx; exact kind_send b c k
  have d4 := disj_kind (fun n => 4 ≤ n) (fun x hx => by rw [kr false x hx]; decide) k5
  have d3 := disj_kind (s := (cp false).map (sendT false c)) (t := (cp false).map (recvT false c) ∪ ({(barC (pv c), 0, true)} ∪ {(barC (nx c), 0, false)}))
    (fun n => 2 ≤ n) (fun x hx => by rw [ks false x hx]; decide) (fun x hx => by
      rcases Finset.mem_union.mp hx with h | h
      · rw [kr false x h]; decide
      · exact le_trans (by decide) (k5 x h))
  have d2 := disj_kind (s := (cp true).map (recvT true c))
    (t := (cp false).map (sendT false c) ∪ ((cp false).map (recvT false c) ∪ ({(barC (pv c), 0, true)} ∪ {(barC (nx c), 0, false)})))
    (fun n => n ≠ 3) (fun x hx => by rw [kr true x hx]; decide) (fun x hx => by
      rcases Finset.mem_union.mp hx with h | h
      · rw [ks false x h]; decide
      rcases Finset.mem_union.mp h with h | h
      · rw [kr false x h]; decide
      · have := k5 x h; show kind x ≠ 3; omega)
  have d1 := disj_kind (s := (cp true).map (sendT true c))
    (t := (cp true).map (recvT true c) ∪ ((cp false).map (sendT false c) ∪ ((cp false).map (recvT false c) ∪ ({(barC (pv c), 0, true)} ∪ {(barC (nx c), 0, false)}))))
    (fun n => n ≠ 1) (fun x hx => by rw [ks true x hx]; decide) (fun x hx => by
      rcases Finset.mem_union.mp hx with h | h
      · rw [kr true x h]; decide
      rcases Finset.mem_union.mp h with h | h
      · rw [ks false x h]; decide
      rcases Finset.mem_union.mp h with h | h
      · rw [kr false x h]; decide
      · have := k5 x h; show kind x ≠ 1; omega)
  unfold mine toks
  rw [bigSep_union d1, bigSep_union d2, bigSep_union d3, bigSep_union d4, bigSep_union d5, bigSep_map, bigSep_map, bigSep_map, bigSep_map,
    bigSep_singleton, bigSep_singleton, bigSep_sep', bigSep_sep']
  refine (show _ ⊢ iprop((bigSep (cp true) fun k => dutyTok ER (sendC true c k) (k / 4) true) ∗ (bigSep (cp true) fun k => dutyTok ER (recvC true (tw true c) (k + 1)) (k / 4) true)
    ∗ (bigSep (cp false) fun k => dutyTok ER (sendC false c k) (k / 4) true) ∗ (bigSep (cp false) fun k => dutyTok ER (recvC false (tw false c) (k + 1)) (k / 4) true)
    ∗ dutyTok ER (barC (pv c)) 0 true ∗ dutyTok ER (barC (nx c)) 0 false) from .rfl).trans ?_
  iintro ⟨H1, H2, H3, H4, H5, H6⟩
  isplitl [H1 H2]; · (isplitl [H1]; · iexact H1
                      iexact H2)
  isplitl [H3 H4]; · (isplitl [H3]; · iexact H3
                      iexact H4)
  isplitl [H5]; · iexact H5
  iexact H6

/-! ## The credit -/

/-- What the other devices owe to device `c`. -/
def got (c : Dev nD) : CellTallies nD τ sig ℕ :=
  (∑ k ∈ cp true, tallyAt (recvC true c (k + 1)) k NN) + (∑ k ∈ cp false, tallyAt (recvC false c (k + 1)) k NN) + tallyAt (barC c) 0 2

/-- What all devices owe is what all devices are owed. -/
theorem sum_got : (∑ d : Dev nD, O₀ d) = ∑ d : Dev nD, got d := by
  unfold O₀ got owe
  simp only [Finset.sum_add_distrib]
  have h1 := Equiv.sum_comp ring (fun d : Dev nD => ∑ k ∈ cp true, (tallyAt (recvC true d (k + 1)) k NN : CellTallies nD τ sig ℕ))
  have h2 := Equiv.sum_comp ring.symm (fun d : Dev nD => ∑ k ∈ cp false, (tallyAt (recvC false d (k + 1)) k NN : CellTallies nD τ sig ℕ))
  have h3 := Equiv.sum_comp ring (fun d : Dev nD => (tallyAt (barC d) 0 1 : CellTallies nD τ sig ℕ))
  have h4 := Equiv.sum_comp ring.symm (fun d : Dev nD => (tallyAt (barC d) 0 1 : CellTallies nD τ sig ℕ))
  have h5 : (∑ d : Dev nD, (tallyAt (barC d) 0 2 : CellTallies nD τ sig ℕ)) = (∑ d : Dev nD, tallyAt (barC d) 0 1) + ∑ d : Dev nD, tallyAt (barC d) 0 1 := by
    rw [← Finset.sum_add_distrib]; exact Finset.sum_congr rfl fun d _ => (tallyAt_add (barC d) 0 1 1).symm
  rw [h5, add_assoc (_ + _) _ _]
  exact congr (congrArg HAdd.hAdd (congr (congrArg HAdd.hAdd h1) h2)) (congr (congrArg HAdd.hAdd h3) h4)

/-- What a device is owed is on its own semaphores. -/
theorem got_own (c : Dev nD) (g : GSem nD τ sig) (h : got c g ≠ 0) : g.1 = (c.tc : Thread nD τ) := by
  by_contra hg
  refine h ?_
  unfold got
  have h0 (sm : SemLoc sig) (k n : ℕ) : (tallyAt ((c : Thread nD τ), sm) k n : CellTallies nD τ sig ℕ) g = 0 :=
    tallyAt_ne_cell (fun e => hg (congrArg Prod.fst e)) k n
  rw [Pi.add_apply, Pi.add_apply, Finset.sum_apply, Finset.sum_apply, Finset.sum_eq_zero fun k _ => h0 _ _ _, Finset.sum_eq_zero fun k _ => h0 _ _ _, h0,
    add_zero, add_zero]

/-- A device's share of the credit. -/
theorem launch_creds (c : Dev nD) : (Pipeline.launchCred O₀ c : sProp 𝕄) ⊢ iprop(creds c true 0 ∗ creds c false 0 ∗ cred (tallyAt (barC c) 0 2)) := by
  rw [Pipeline.launchCred_of_sum O₀ got sum_got got_own c]
  unfold got creds
  rw [BI.Entails.antisymm (cred_add _ _).1 (cred_add _ _).2, BI.Entails.antisymm (cred_add _ _).1 (cred_add _ _).2, Pipeline.cred_finsetSum, Pipeline.cred_finsetSum]
  iintro ⟨⟨H1, H2⟩, H3⟩
  isplitl [H1]; · iexact H1
  isplitl [H2]; · iexact H2
  iexact H3

/-! ## The family of cells -/

/-- The barrier cells, the own cells, and what each device pays. -/
def fam : TalkSites.Fam nD τ sig Bool 1 where
  bar := barSem
  dorm _ := Finset.univ.map ⟨osem, osem_inj⟩
  toks c _ := mine c
  semKey _ := 0
  hsem j _ _ := Subsingleton.elim _ _
  hbar j h := by
    obtain ⟨⟨b, s, k⟩, -, e⟩ := Finset.mem_map.mp h
    cases s <;> cases e
  tokKey x := (payer x, 0)
  htok c j x hx := Prod.ext (payer_mine c x hx) (Subsingleton.elim _ _)

/-- Everything follows from the cells' invariants at some names. -/
theorem fam_invs : iprop(∃ κ, fam.cellInvs ER (ringRd kv) κ) ⊢ (invs kv : sProp 𝕄) := by
  have hx (κ : GSem nD τ sig → ℕ) (d : Dev nD) (x : Bool × Fin 4) : iprop(fam.cellInvs ER (ringRd kv) κ ∗ emp)
      ⊢ (iprop(ci kv (sendC x.1 d x.2.val) ∗ ci kv (recvC x.1 d (x.2.val + 1))) : sProp 𝕄) := by
    iintro ⟨#H, -⟩
    ihave H1 := (fam.cellInvs_dorm ER (ringRd kv) κ d (j := 0) (sm := .dma (semS x.1 x.2.val))
      (Finset.mem_map.mpr ⟨(x.1, false, x.2), Finset.mem_univ _, rfl⟩)) $$ H
    ihave H2 := (fam.cellInvs_dorm ER (ringRd kv) κ d (j := 0) (sm := .dma (semR x.1 (x.2.val + 1)))
      (Finset.mem_map.mpr ⟨(x.1, true, x.2), Finset.mem_univ _, rfl⟩)) $$ H
    unfold ci
    isplitl [H1]
    · iexists _; iexact H1
    · iexists _; iexact H2
  have hd (κ : GSem nD τ sig → ℕ) (d : Dev nD) : iprop(fam.cellInvs ER (ringRd kv) κ ∗ emp)
      ⊢ (iprop(ci kv (barC d) ∗ bigSep Finset.univ fun x : Bool × Fin 4 => iprop(ci kv (sendC x.1 d x.2.val) ∗ ci kv (recvC x.1 d (x.2.val + 1)))) : sProp 𝕄) := by
    iintro ⟨#H, -⟩
    ihave H1 := (fam.cellInvs_bar ER (ringRd kv) κ d) $$ H
    isplitl [H1]
    · unfold ci; iexists _; iexact H1
    iapply (bigSep_with_persistent (R := fam.cellInvs ER (ringRd kv) κ) (Φ := fun _ => iprop(emp)) fun x _ => hx κ d x)
    isplitr; · iexact H
    iapply (Entails.of_eq (BI.bigSep_emp_const _).symm); iempintro
  unfold invs
  iintro ⟨%κ, #H⟩
  iapply (bigSep_with_persistent (R := fam.cellInvs ER (ringRd kv) κ) (Φ := fun _ => iprop(emp)) fun d _ => hd κ d)
  isplitr; · iexact H
  iapply (Entails.of_eq (BI.bigSep_emp_const _).symm); iempintro

/-- A separating conjunction over the own semaphores. -/
theorem bigSep_osem (Φ : SemLoc sig → sProp 𝕄) : (bigSep Finset.univ fun x => Φ (osem x))
    = iprop(((Φ (.dma (semS true 0)) ∗ Φ (.dma (semS true 1)) ∗ Φ (.dma (semS true 2)) ∗ Φ (.dma (semS true 3)))
        ∗ (Φ (.dma (semR true 1)) ∗ Φ (.dma (semR true 2)) ∗ Φ (.dma (semR true 3)) ∗ Φ (.dma (semR true 4))))
      ∗ ((Φ (.dma (semS false 0)) ∗ Φ (.dma (semS false 1)) ∗ Φ (.dma (semS false 2)) ∗ Φ (.dma (semS false 3)))
        ∗ (Φ (.dma (semR false 1)) ∗ Φ (.dma (semR false 2)) ∗ Φ (.dma (semR false 3)) ∗ Φ (.dma (semR false 4))))) := by
  have hb (Ψ : Bool → sProp 𝕄) : bigSep Finset.univ Ψ = iprop(Ψ true ∗ Ψ false) := bigSep_univ_eq_bigSepL [true, false] (by decide) (by decide) Ψ
  have hb' (Ψ : Bool → sProp 𝕄) : bigSep Finset.univ Ψ = iprop(Ψ false ∗ Ψ true) := bigSep_univ_eq_bigSepL [false, true] (by decide) (by decide) Ψ
  rw [bigSep_univ_prod, hb, bigSep_univ_prod, bigSep_univ_prod, hb', hb', bigSep_four, bigSep_four, bigSep_four, bigSep_four]
  rfl

/-- Putting the counters into their cells. -/
theorem open_cells (c : Dev nD) :
    iprop(invs kv ∗ (bigSep (fam.dorm 0) fun sm => openTok ER ((c.tc : Thread nD τ), sm)) ∗ Pipeline.ownSems0 osem c)
      ⊢ (|={Set.univ}=> iprop(places c true 0 ∗ places c false 0) : sProp 𝕄) := by
  have hone (x : Bool × Bool × Fin 4) : iprop(invs kv ∗ (openTok ER ((c.tc : Thread nD τ), osem x) ∗ semVal ((c.tc : Thread nD τ), osem x) 0))
      ⊢ (|={Set.univ}=> iprop(atPos ER ((c.tc : Thread nD τ), osem x) 0 ∅ 0 ∗ reached ER ((c.tc : Thread nD τ), osem x) 0) : sProp 𝕄) := by
    have hci : (invs kv : sProp 𝕄) ⊢ ci kv ((c.tc : Thread nD τ), osem x) := by
      obtain ⟨b, s, k⟩ := x
      cases s
      · exact invs_send kv c b k.val
      · exact invs_recv kv c b k.val
    iintro ⟨#HI, Ho, Hv⟩
    ihave HC := hci $$ HI
    unfold ci
    icases HC with ⟨%κ, HC⟩
    iapply (Rounds.cell_open ER (ringRd kv) (g := ((c.tc : Thread nD τ), osem x)) (Set.mem_univ κ))
    isplitl [HC]; · iexact HC
    isplitl [Ho] <;> iassumption
  have hall : iprop(invs kv ∗ (bigSep Finset.univ fun x => iprop(openTok ER ((c.tc : Thread nD τ), osem x) ∗ semVal ((c.tc : Thread nD τ), osem x) 0)))
      ⊢ (|={Set.univ}=> bigSep Finset.univ (fun x => iprop(atPos ER ((c.tc : Thread nD τ), osem x) 0 ∅ 0 ∗ reached ER ((c.tc : Thread nD τ), osem x) 0)) : sProp 𝕄) :=
    (bigSep_with_persistent fun x _ => hone x).trans (bigSep_fupd _ _)
  have hplaces : (bigSep Finset.univ (fun x => iprop(atPos ER ((c.tc : Thread nD τ), osem x) 0 ∅ 0 ∗ reached ER ((c.tc : Thread nD τ), osem x) 0)) : sProp 𝕄)
      = iprop(places c true 0 ∗ places c false 0) :=
    bigSep_osem fun sm => iprop(atPos ER ((c.tc : Thread nD τ), sm) 0 ∅ 0 ∗ reached ER ((c.tc : Thread nD τ), sm) 0)
  rw [← hplaces, show (bigSep (fam.dorm 0) fun sm => (openTok ER ((c.tc : Thread nD τ), sm) : sProp 𝕄))
    = bigSep Finset.univ fun x => openTok ER ((c.tc : Thread nD τ), osem x) from bigSep_map _]
  unfold Pipeline.ownSems0
  iintro ⟨HI, Ho, Hv⟩
  iapply hall
  isplitl [HI]; · iexact HI
  iapply (Entails.of_eq (bigSep_sep' (s := Finset.univ) (Φ := fun x => openTok ER ((c.tc : Thread nD τ), osem x)) (Ψ := fun x => semVal ((c.tc : Thread nD τ), osem x) 0)).symm)
  isplitl [Ho] <;> iassumption

/-- The own counters at zero. -/
theorem zeros_own (c : Dev nD) : iprop(zeros c true ∗ zeros c false) ⊢ (Pipeline.ownSems0 osem c : sProp 𝕄) := by
  rw [show (Pipeline.ownSems0 osem c : sProp 𝕄) = _ from bigSep_osem fun sm => semVal ((c.tc : Thread nD τ), sm) 0]
  unfold zeros
  rw [bigSep_four, bigSep_four]
  iintro ⟨⟨⟨H1, H2⟩, ⟨H3, H4⟩, ⟨H5, H6⟩, ⟨H7, H8⟩⟩, ⟨H9, H10⟩, ⟨H11, H12⟩, ⟨H13, H14⟩, ⟨H15, H16⟩⟩
  isplitl [H1 H2 H3 H4 H5 H6 H7 H8]
  · isplitl [H1 H3 H5 H7]
    · isplitl [H1]; · iexact H1
      isplitl [H3]; · iexact H3
      isplitl [H5]; · iexact H5
      iexact H7
    · isplitl [H2]; · iexact H2
      isplitl [H4]; · iexact H4
      isplitl [H6]; · iexact H6
      iexact H8
  · isplitl [H9 H11 H13 H15]
    · isplitl [H9]; · iexact H9
      isplitl [H11]; · iexact H11
      isplitl [H13]; · iexact H13
      iexact H15
    · isplitl [H10]; · iexact H10
      isplitl [H12]; · iexact H12
      isplitl [H14]; · iexact H14
      iexact H16

/-- What device `c` carries from the launch to the kernel. -/
def carry (c : Dev nD) : sProp 𝕄 :=
  iprop(invs kv ∗ (bigSep (fam.dorm 0) fun sm => openTok ER ((c.tc : Thread nD τ), sm))
    ∗ (toks c true 0 ∗ creds c true 0) ∗ (toks c false 0 ∗ creds c false 0)
    ∗ atPos ER (barC c) 0 ∅ 0 ∗ cred (tallyAt (barC c) 0 2)
    ∗ (dutyTok ER (barC (pv c)) 0 true ∗ reached ER (barC (pv c)) 0) ∗ (dutyTok ER (barC (nx c)) 0 false ∗ reached ER (barC (nx c)) 0))

/-- What a device carries into the kernel, from its parts. -/
theorem carry_intro (c : Dev nD) :
    iprop(fam.launched ER (ringRd kv) (fun c => {pv c, nx c}) c ∗ Pipeline.launchCred O₀ c) ⊢ (carry kv c : sProp 𝕄) := by
  unfold TalkSites.Fam.launched TalkSites.Fam.barPos TalkSites.Fam.rides carry
  have hone (Φ : Fin 1 → sProp 𝕄) : bigSep Finset.univ Φ = Φ 0 := bigSep_univ_eq_bigSepL [0] (by decide) (by decide) Φ
  have hr (d : Dev nD) (hd : d ∈ ({pv c, nx c} : Finset (Dev nD))) :
      (bigSep {pv c, nx c} fun n : Dev nD => (reached ER ((n.tc : Thread nD τ), fam.bar) 0 : sProp 𝕄)) ⊢ reached ER (barC d) 0 := bigSep_elim hd
  rw [hone]
  iintro ⟨⟨⟨#HI, Hat, #Hr⟩, ⟨-, Hop, Htk⟩⟩, Hcr⟩
  ihave HI' := (fam_invs kv) $$ HI
  ihave Hm := (show (bigSep (fam.toks c 0) fun x => (dutyTok ER x.1 x.2.1 x.2.2 : sProp 𝕄)) ⊢ _ from mine_split c) $$ Htk
  ihave Hc := (launch_creds c) $$ Hcr
  icases Hm with ⟨HT, HF, HbP, HbN⟩
  icases Hc with ⟨HcT, HcF, HcB⟩
  isplitl [HI']; · iexact HI'
  isplitl [Hop]; · iexact Hop
  isplitl [HT HcT]; · isplitl [HT] <;> iassumption
  isplitl [HF HcF]; · isplitl [HF] <;> iassumption
  isplitl [Hat]; · iexact Hat
  isplitl [HcB]; · iexact HcB
  isplitl [HbP]
  · isplitl [HbP]; · iexact HbP
    iapply (hr (pv c) (Finset.mem_insert_self _ _)); iexact Hr
  · isplitl [HbN]; · iexact HbN
    iapply (hr (nx c) (Finset.mem_insert_of_mem (Finset.mem_singleton_self _))); iexact Hr

/-- The kernel's part of the launch. -/
theorem fund :
    iprop((bigSep Finset.univ fun c : Dev nD => iprop(semVal (barC c) 0 ∗ Pipeline.launchCred O₀ c)) ∗ BI.own (ER (launchOf fam.S fam.Sd fam.T)))
      ⊢ (|={Set.univ}=> bigSep Finset.univ (carry kv) : sProp 𝕄) := by
  have hz (c : Dev nD) : (semVal (barC c) 0 : sProp 𝕄) ⊢ iprop(semVal ((c.tc : Thread nD τ), fam.bar) 0 ∗ Pipeline.launchCred (fun _ => (0 : CellTallies nD τ sig ℕ)) c) := by
    rw [show (Pipeline.launchCred (fun _ => (0 : CellTallies nD τ sig ℕ)) c : sProp 𝕄) = cred 0 from
      Pipeline.launchCred_of_sum (fun _ => 0) (fun _ => 0) rfl (fun d g h => absurd rfl h) c, cred_zero]
    iintro H
    isplitl [H]; · iexact H
    iempintro
  have hf := fam.funds ER (ringRd kv) (fun g _ h => h) (fun c => {pv c, nx c}) (Es := Set.univ)
  rw [bigSep_sep']
  iintro ⟨⟨Hb, Hc⟩, Hu⟩
  imod hf $$ [Hb Hu] with HL
  · isplitl [Hb]
    · iapply (show (bigSep Finset.univ fun c : Dev nD => (semVal (barC c) 0 : sProp 𝕄)) ⊢ bigSep Finset.univ fun c : Dev nD =>
        iprop(semVal ((c.tc : Thread nD τ), fam.bar) 0 ∗ Pipeline.launchCred (fun _ => (0 : CellTallies nD τ sig ℕ)) c) from bigSep_mono fun c _ => hz c)
      iexact Hb
    · iexact Hu
  imodintro
  iapply (show iprop((bigSep Finset.univ fun c : Dev nD => fam.launched ER (ringRd kv) (fun c => {pv c, nx c}) c) ∗ (bigSep Finset.univ fun c : Dev nD => Pipeline.launchCred O₀ c))
      ⊢ (bigSep Finset.univ (carry kv) : sProp 𝕄) from by rw [← bigSep_sep']; exact bigSep_mono fun c _ => carry_intro kv c)
  isplitl [HL]; · iexact HL
  iexact Hc

end Cert.KernelIdeal.Att

end
-- ==== Proof.LaunchKI.lean ====
/-
The kernel within its launch: the buffers, the body's obligation, the run.
-/
module

public import proofs.«01_k».proof.Proof.FundKI
public import proofs.«01_k».proof.Proof.Gen.KernelIdeal.Frame
public import Idealize.ShloMosaic.Lib.Pipeline.RegionTalk
public import Idealize.ShloMosaic.Lib.Pipeline.ValueKit

@[expose] public section

set_option maxRecDepth 16384

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## What the buffers hold -/

/-- The block a device sends: its keys and values. -/
def kvs (d : Dev nD) : Blk F := V0 m d (Proc.devRef .tc main_v6)
/-- The block a device stores. -/
def outB (c : Dev nD) : Vec F S256x512 .f32 :=
  outOf (kvs m) c (V0 m c (Proc.devRef .tc main_v1)) (V0 m c (Proc.devRef .tc main_arg1)) (V0 m c (Proc.devRef .tc main_arg4))
/-- The buffers before the kernel, -/
abbrev W0 (c : Dev nD) : Valuation τ sig (Elt F) := V0 m c
/-- after it, -/
def W1 (c : Dev nD) : Valuation τ sig (Elt F) := Function.update (W0 m c) (Proc.devRef .tc main_v7) (outB m c)
/-- and at the end. -/
abbrev W2 (c : Dev nD) : Valuation τ sig (Elt F) := StableHlo.after hostOps1 (W1 m c)

/-- What the own invariant of the kernel holds before its only point. -/
def phi0 (c : Dev nD) : sProp 𝕄 := iprop((invs (kvs m) ∗ levAts L lv ∗ start c) ∗ scr c ∗ ∃ r, prngReg c r)
/-- and after it. -/
def phi1 (c : Dev nD) : sProp 𝕄 := iprop((semVal (barC c) 0 ∗ zeros c true ∗ zeros c false) ∗ scr c ∗ ∃ r, prngReg c r)

/-- The proof data of the kernel. -/
def dat (c : Dev nD) : Dat τ (Elt F) ℕ ℕ UU ℕ cfg0 c where
  A w := W0 m c (Proc.devRef .tc (Pipeline.arrRef spec0 w))
  after := fun
    | 0, t => iblk m c 0 t
    | 1, t => iblk m c 1 t
    | 2, t => iblk m c 2 t
    | 3, t => iblk m c 3 t
    | 4, t => iblk m c 4 t
    | 5, t => iblk m c 5 t
    | 6, _ => outB m c
    | ⟨_ + 7, h⟩, _ => absurd h (Nat.not_lt.2 (Nat.le_add_left _ _))
  Φ t := if t.val = 0 then phi0 m c else phi1 c
  q _ := fullShare
  owed t := if t.val = 0 then O₀ c else 0

abbrev adm : (p : Fin 1) → (pcfgs (F := F) p).Adm := fun p => (cfgs p).toPCfg_adm
/-- The data of the one call, on each device. -/
def pdats : (p : Fin 1) → (c : Dev nD) → Dat τ (Elt F) ℕ ℕ UU ℕ (Pipeline.pin (pcfgs (F := F)) adm p) c
  | 0 => dat m
  | ⟨_ + 1, h⟩ => absurd h (Nat.not_lt.2 (Nat.le_add_left _ _))

/-- The one block of the table of right neighbours is the whole table. -/
theorem emb0 (y) : (win0_0.blk t0_0).view.emb y = y := by
  funext a; apply Fin.ext; blk_simp; simp; left; rfl
/-- The one block of the table of left neighbours is the whole table. -/
theorem emb1 (y) : (win0_1.blk t0_0).view.emb y = y := by
  funext a; apply Fin.ext; blk_simp; simp; left; rfl
/-- The one block of the rows is all of them. -/
theorem emb2 (y) : (win0_2.blk t0_0).view.emb y = y := by
  funext a; apply Fin.ext; blk_simp; simp; left; rfl
/-- The one block of the query weights is the whole matrix. -/
theorem emb3 (y) : (win0_3.blk t0_0).view.emb y = y := by
  funext a; apply Fin.ext; blk_simp; simp; left; rfl
/-- The one block of the output weights is the whole matrix. -/
theorem emb4 (y) : (win0_4.blk t0_0).view.emb y = y := by
  funext a; apply Fin.ext; blk_simp; simp; left; rfl
/-- The one block of the keys and values is the whole array. -/
theorem emb5 (y) : (win0_5.blk t0_0).view.emb y = y := by
  funext a; apply Fin.ext; blk_simp; simp; left; rfl
/-- The one block of the result is the whole array. -/
theorem emb6 (y) : (win0_6.blk t0_0).view.emb y = y := by
  funext a; apply Fin.ext; blk_simp; simp; left; rfl
/-- The first operand's block is the table of right neighbours. -/
theorem blk0 (c : Dev nD) : iblk m c 0 t0_0 = tabR := by
  funext y
  show V m c main_c ((win0_0.blk t0_0).view.emb y) = _
  rw [emb0]
  entry_read; rfl
/-- The second operand's block is the table of left neighbours. -/
theorem blk1 (c : Dev nD) : iblk m c 1 t0_0 = tabL := by
  funext y
  show V m c main_c_0 ((win0_1.blk t0_0).view.emb y) = _
  rw [emb1]
  entry_read; rfl
/-- The third operand's block is the device's rows. -/
theorem blk2 (c : Dev nD) : iblk m c 2 t0_0 = W0 m c (Proc.devRef .tc main_v1) := by
  funext y
  show V m c main_v1 ((win0_2.blk t0_0).view.emb y) = _
  rw [emb2]
/-- The fourth operand's block is the query weights. -/
theorem blk3 (c : Dev nD) : iblk m c 3 t0_0 = W0 m c (Proc.devRef .tc main_arg1) := by
  funext y
  show V m c main_arg1 ((win0_3.blk t0_0).view.emb y) = _
  rw [emb3]
/-- The fifth operand's block is the output weights. -/
theorem blk4 (c : Dev nD) : iblk m c 4 t0_0 = W0 m c (Proc.devRef .tc main_arg4) := by
  funext y
  show V m c main_arg4 ((win0_4.blk t0_0).view.emb y) = _
  rw [emb4]
/-- The sixth operand's block is the device's keys and values. -/
theorem blk5 (c : Dev nD) : iblk m c 5 t0_0 = kvs m c := by
  funext y
  show V m c main_v6 ((win0_5.blk t0_0).view.emb y) = _
  rw [emb5]
  rfl

/-- At the end the result's array holds what the body stored. -/
theorem arr6 (c : Dev nD) : (dat m c).arrAt 6 cfg0.N = outB m c := by
  refine (dat m c).arrAt_eq_of_after_last 6 t0_0 (by decide +kernel) _ fun j => ?_
  rfl

/-- Before the body the first stage holds the table of right neighbours. -/
theorem bef0 (c : Dev nD) (d) : (dat m c).before 0 t0_0 d = tabR := by
  unfold Dat.before
  rw [if_pos (fetch0_0 _)]
  exact blk0 m c
/-- Before the body the second stage holds the table of left neighbours. -/
theorem bef1 (c : Dev nD) (d) : (dat m c).before 1 t0_0 d = tabL := by
  unfold Dat.before
  rw [if_pos (fetch0_1 _)]
  exact blk1 m c
/-- Before the body the third stage holds the rows. -/
theorem bef2 (c : Dev nD) (d) : (dat m c).before 2 t0_0 d = W0 m c (Proc.devRef .tc main_v1) := by
  unfold Dat.before
  rw [if_pos (fetch0_2 _)]
  exact blk2 m c
/-- Before the body the fourth stage holds the query weights. -/
theorem bef3 (c : Dev nD) (d) : (dat m c).before 3 t0_0 d = W0 m c (Proc.devRef .tc main_arg1) := by
  unfold Dat.before
  rw [if_pos (fetch0_3 _)]
  exact blk3 m c
/-- Before the body the fifth stage holds the output weights. -/
theorem bef4 (c : Dev nD) (d) : (dat m c).before 4 t0_0 d = W0 m c (Proc.devRef .tc main_arg4) := by
  unfold Dat.before
  rw [if_pos (fetch0_4 _)]
  exact blk4 m c
/-- Before the body the sixth stage holds the keys and values. -/
theorem bef5 (c : Dev nD) (d) : (dat m c).before 5 t0_0 d = kvs m c := by
  unfold Dat.before
  rw [if_pos (fetch0_5 _)]
  exact blk5 m c

/-- The debts as the pipeline writes them are the protocol's. -/
theorem owes_out (c : Dev nD) (t : Fin (cfg0.N + 1)) (O : CellTallies nD τ sig ℕ) (h0 : (dat m c).owed t = O) :
    ((dat m c).owesAt 0 t : sProp 𝕄) ⊢ ow c O := by
  unfold Dat.owesAt Pipeline.owesWithin ow; rw [h0]
  iintro ⟨%W, -, HO⟩; iexists W; iexact HO
/-- The protocol's debts are those that the pipeline writes. -/
theorem owes_in (c : Dev nD) (t : Fin (cfg0.N + 1)) (O : CellTallies nD τ sig ℕ) (h0 : (dat m c).owed t = O) :
    (ow c O : sProp 𝕄) ⊢ (dat m c).owesAt 0 t := by
  unfold Dat.owesAt Pipeline.owesWithin Dat.bound ow; rw [h0]
  iintro ⟨%W, HO⟩; iexists W; isplitr; · ipureintro; exact fun _ _ => Or.inl trivial
  iexact HO

/-- A whole buffer, as the pipeline states it. -/
theorem stg_eq (c : Dev nD) (b : Ref sig .tc) (X : b.ty.Contents (Elt F)) : (owns (c : Thread nD τ) (Memref.whole b) fullShare X : sProp 𝕄) = stgAt c b X :=
  owns_whole _ _ _ _

set_option maxHeartbeats 1000000 in
/-- The body's obligation. -/
theorem body_obligation (c : Dev nD) : BodyObligation (dat m c) (defs₀ (F := F)) 𝒱₀ 0 Set.univ := fun t => by
  rw [fin_N0 t]
  rw [bigSep_W0, bigSep_W0]
  show iprop(phi0 m c ∗ (dat m c).owesAt 0 t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d))
      ∗ (∃ d, owns (c : Thread nD τ) (Memref.whole cc0_stg4_0) fullShare ((dat m c).before 4 t0_0 d))
      ∗ (∃ d, owns (c : Thread nD τ) (Memref.whole cc0_stg5_0) fullShare ((dat m c).before 5 t0_0 d))
      ∗ (∃ d, owns (c : Thread nD τ) (Memref.whole cc0_stg6_0) fullShare ((dat m c).before 6 t0_0 d)))
    ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_stg6_0) (Memref.isWhole_whole _) (mr true) (Memref.isWhole_whole _) (mr false) (Memref.isWhole_whole _)
        (sS true) (sR true) (sS false) (sR false))
      (fun _ => iprop(phi1 c ∗ (dat m c).owesAt 0 t0_0.succ
        ∗ owns (c : Thread nD τ) (Memref.whole cc0_stg0_0) fullShare (iblk m c 0 t0_0)
        ∗ owns (c : Thread nD τ) (Memref.whole cc0_stg1_0) fullShare (iblk m c 1 t0_0)
        ∗ owns (c : Thread nD τ) (Memref.whole cc0_stg2_0) fullShare (iblk m c 2 t0_0)
        ∗ owns (c : Thread nD τ) (Memref.whole cc0_stg3_0) fullShare (iblk m c 3 t0_0)
        ∗ owns (c : Thread nD τ) (Memref.whole cc0_stg4_0) fullShare (iblk m c 4 t0_0)
        ∗ owns (c : Thread nD τ) (Memref.whole cc0_stg5_0) fullShare (iblk m c 5 t0_0)
        ∗ owns (c : Thread nD τ) (Memref.whole cc0_stg6_0) fullShare (outB m c)))
  simp only [bef0, bef1, bef2, bef3, bef4, bef5, stg_eq]
  rw [blk0, blk1, blk2, blk3, blk4, blk5]
  have hc := body_canon (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_stg6_0) (Memref.isWhole_whole _) (mr true) (Memref.isWhole_whole _) (mr false) (Memref.isWhole_whole _)
        (sS true) (sR true) (sS false) (sR false)
  rw [hc]
  unfold phi0 phi1
  iintro ⟨⟨⟨#HI, #Hlev, Hst⟩, Hscr, Hreg⟩, HO, ⟨%_, H0⟩, ⟨%_, H1⟩, ⟨%_, H2⟩, ⟨%_, H3⟩, ⟨%_, H4⟩, ⟨%_, H5⟩, ⟨%g, H6⟩⟩
  ihave HO := (owes_out m c t0_0.castSucc (O₀ c) rfl) $$ HO
  iapply (body_wp (kvs m) c _ _ _ _) $$ [Hst Hscr HO H0 H1 H2 H3 H4 H5 H6]
  · isplitr; · iexact HI
    isplitr; · iexact Hlev
    isplitl [Hscr]; · iexact Hscr
    isplitl [Hst]; · iexact Hst
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  iintro ⟨Hscr, Hb, HzT, HzF, HO, H0, H1, H2, H3, H4, H5, H6⟩
  isplitl [Hscr Hb HzT HzF Hreg]
  · isplitl [Hb HzT HzF]
    · isplitl [Hb]; · iexact Hb
      isplitl [HzT] <;> iassumption
    isplitl [Hscr] <;> iassumption
  isplitl [HO]; · iapply (owes_in m c t0_0.succ 0 rfl); iexact HO
  isplitl [H0]; · iexact H0
  isplitl [H1]; · iexact H1
  isplitl [H2]; · iexact H2
  isplitl [H3]; · iexact H3
  isplitl [H4]; · iexact H4
  isplitl [H5]; · iexact H5
  iexact H6

/-! ## The region -/

/-- At the start a device owes all that the protocol asks of it. -/
theorem owed_zero (c : Dev nD) : (pdats m 0 c).owed 0 = O₀ c := by
  show (if ((0 : Fin (cfg0.N + 1)).val = 0) then O₀ c else 0) = O₀ c; exact if_pos rfl
/-- At the end a device owes nothing. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- What is owed at the start is owed to the barrier or to a landing. -/
theorem O₀_pos {c : Dev nD} {g : GSem nD τ sig} {u : ℕ} (h : 0 < O₀ c g u) :
    (∃ b d, u < lim b ∧ g = recvC b d (u + 1)) ∨ (u = 0 ∧ ∃ d, g = barC d) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨d, -, h1, h2⟩ := owe_pos h
        exact .inl ⟨true, d, h1, h2⟩
      · obtain ⟨d, -, h1, h2⟩ := owe_pos h
        exact .inl ⟨false, d, h1, h2⟩
    · obtain ⟨h1, h2⟩ := Pipeline.tallyAt_pos h
      exact .inr ⟨h2, _, h1⟩
  · obtain ⟨h1, h2⟩ := Pipeline.tallyAt_pos h
    exact .inr ⟨h2, _, h1⟩

/-- A core's semaphores may be waited for at seventeen indices. -/
theorem L_tc (c : Dev nD) (s : SemLoc sig) : L ((c.tc, s) : GSem nD τ sig) = Finset.range 17 := if_pos rfl
/-- The pipeline's own semaphores are at the lowest level. -/
theorem lv_stage (c : Dev nD) (w : Fin 7) (s : Fin ((cfg0.win w).nbuf)) : lv ((c.tc, SemLoc.dma ((cfg0.win w).sem s)) : GSem nD τ sig) 0 ≤ 0 := by
  show (if isRecv (((cfg0.win w).sem s)).val then 0 + 2 else 0) ≤ 0
  revert s; revert w; decide

/-- Whatever is owed lies above the pipeline's own waits. -/
theorem cut_owed (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨b, d, hi, rfl⟩ | ⟨rfl, d, rfl⟩
    · have hl : lim b ≤ 16 := by cases b <;> decide
      exact ⟨(L_tc _ _).symm ▸ Finset.mem_range.mpr (by omega), by rw [lv_recv]; omega⟩
    · exact ⟨(L_tc _ _).symm ▸ Finset.mem_range.mpr (by decide), Nat.one_pos⟩
  · exact absurd h (Nat.lt_irrefl 0)

/-- What enters the kernel's invariant beside the scratch. -/
def Xk (c : Dev nD) : sProp 𝕄 := iprop(invs (kvs m) ∗ levAts L lv ∗ start c)
/-- What comes back. -/
def Yk (c : Dev nD) : sProp 𝕄 := semVal (barC c) 0

/-- On entry the device's invariants and tokens are opened. -/
theorem hopen (c : Dev nD) : iprop(carry (kvs m) c ∗ Pipeline.ownSems0 osem c ∗ levAts L lv) ⊢ (|={Set.univ}=> Xk m c : sProp 𝕄) := by
  unfold carry Xk start
  iintro ⟨⟨#HI, Hop, HT, HF, Hat, Hcr, HbP, HbN⟩, Hos, #Hlev⟩
  imod (open_cells (kvs m) c) $$ [Hop Hos] with ⟨HpT, HpF⟩
  · isplitr; · iexact HI
    isplitl [Hop] <;> iassumption
  imodintro
  isplitr; · iexact HI
  isplitr; · iexact Hlev
  isplitl [HpT]; · iexact HpT
  isplitl [HpF]; · iexact HpF
  isplitl [HT]; · iexact HT
  isplitl [HF]; · iexact HF
  isplitl [Hat]; · iexact Hat
  isplitl [Hcr]; · iexact Hcr
  isplitl [HbP]; · iexact HbP
  iexact HbN

/-- Holding no buffers is holding nothing. -/
theorem held_none (c : Dev nD) (W : Valuation τ sig (Elt F)) : (StableHlo.held (c.tc : Thread nD τ) ∅ W : sProp 𝕄) = BI.emp := by
  unfold StableHlo.held; exact BI.bigSep_empty

/-- What the pipeline leaves over is the two communication buffers. -/
theorem rest_scr (c : Dev nD) : (Pipeline.scopedRest (Pipeline.pin (pcfgs (F := F)) adm 0).spec c : sProp 𝕄) = scr c :=
  scopedRest0_eq c

/-- What the body starts from, out of what the pipeline gives. -/
theorem hin (c : Dev nD) : iprop(Pipeline.scopedRest (Pipeline.pin (pcfgs (F := F)) adm 0).spec c ∗ (∃ r, prngReg c r)
      ∗ StableHlo.held (c.tc : Thread nD τ) ∅ (W0 m c) ∗ Xk m c)
    ⊢ (pdats m 0 c).Φ 0 := by
  rw [show (pdats m 0 c).Φ 0 = phi0 m c from rfl, rest_scr, held_none]
  unfold Xk phi0
  iintro ⟨Hs, Hp, -, Hx⟩
  isplitl [Hx]; · iexact Hx
  isplitl [Hs] <;> iassumption

/-- What the pipeline takes back, out of what the body ends with. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W1 m c) ∗ Pipeline.ownSems0 osem c ∗ Yk c) := by
  rw [show (pdats m 0 c).Φ (Fin.last _) = phi1 c from rfl, rest_scr, held_none]
  unfold Yk phi1
  iintro ⟨⟨Hb, HzT, HzF⟩, Hs, Hp⟩
  isplitl [Hs]; · iexact Hs
  isplitl [Hp]; · iexact Hp
  isplitr; · iempintro
  isplitl [HzT HzF]
  · iapply (zeros_own c)
    isplitl [HzT] <;> iassumption
  iexact Hb

/-- The buffers that no window stages. -/
abbrev Sr : Finset (DevRef τ sig) := Pipeline.ucRefs τ sig \ Pipeline.arrRefs (τ := τ) spec0

/-- The result's array is one of the call's operands. -/
theorem v7_arr : (Proc.devRef .tc main_v7 : DevRef τ sig) ∈ Pipeline.arrRefs (τ := τ) spec0 :=
  Finset.mem_map.mpr ⟨_, Finset.mem_image.mpr ⟨6, Finset.mem_univ _, rfl⟩, rfl⟩

/-- The call leaves all other arrays alone. -/
theorem hrest (c : Dev nD) : ∀ b ∈ Sr \ ∅, W1 m c b = W0 m c b := fun b hb => by
  unfold W1
  refine Function.update_of_ne (fun e => ?_) _ _
  rw [Finset.sdiff_empty] at hb
  exact (Finset.mem_sdiff.mp hb).2 (e ▸ v7_arr)

/-- Before the call each operand's array is as the host left it. -/
theorem hW (c : Dev nD) (w : Fin 7) : (dat m c).arrAt w 0 = W0 m c (Proc.devRef .tc (Pipeline.arrRef spec0 w)) := rfl

/-- After the call each operand's array is as stated. -/
theorem hW' (c : Dev nD) (w : Fin 7) : (dat m c).arrAt w cfg0.N = W1 m c (Proc.devRef .tc (Pipeline.arrRef spec0 w)) := by
  unfold W1
  by_cases hw : w = 6
  · subst hw
    exact (arr6 m c).trans (Function.update_self (Proc.devRef .tc main_v7) (outB m c) (W0 m c)).symm
  · have h1 : (cfg0.win w).isOut = false := by revert hw; revert w; decide
    have h2 : Pipeline.arrRef spec0 w ≠ main_v7 := by revert hw; revert w; decide
    rw [Dat.arrAt_in (dat m c) w h1, Function.update_of_ne (StableHlo.devRef_ne_of_ne h2)]
    rfl

/-- Every operand is held whole. -/
theorem share_full (c : Dev nD) (w : Fin 7) : (dat m c).share w = fullShare := by unfold Dat.share; split <;> rfl

set_option backward.isDefEq.respectTransparency.types false in
/-- The kernel as a segment of the program. -/
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ Sr (Finset.empty_subset _) launch0.toP rfl (fun c => (body_obligation m c).loose)
    (fun _ => 0) O₀ (fun c => (owed_zero m c).trans (zero_add _).symm) (owed_last m) (fun _ => rfl) (fun c w => share_full m c w)
    (W0 m) (W1 m) (hrest m)
    (carry (kvs m)) Yk (Xk m) Yk (hopen m) (hin m) (hout m)
    (fun c => by iintro H; imodintro; iexact H)
    (fun _ => 0)
    ⟨fun c w s => (L_tc c _).symm ▸ Finset.mem_range.mpr (by decide), fun c w s => lv_stage c w s, fun c t g i h => cut_owed m c t g i h⟩
    (fun _ => iprop(emp))
    (fun c w => hW m c w) (fun c w => hW' m c w)

end Cert.KernelIdeal.Att

end
-- ==== Proof.RunKI.lean ====
/-
The run of the whole program on the thirty-two devices.
-/
module

public import proofs.«01_k».proof.Proof.LaunchKI

@[expose] public section

set_option maxRecDepth 16384

noncomputable section

namespace Cert.KernelIdeal.Att

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig ℕ (Elt F) ℕ UU ℕ

variable (m : (ℓ : Loc nD τ sig) → Buf (Elt F) ℓ) (ρ : Dev nD → PrngReg)

/-! ## The segments -/

/-- What rides along the host operations before the kernel, -/
def Ra (c : Dev nD) : sProp 𝕄 := iprop(carry (kvs m) c ∗ (∃ r, prngReg c r) ∗ ∃ W, owes (c.tc : Thread nD τ) (O₀ c) W)
/-- and along those after it. -/
def Rb (c : Dev nD) : sProp 𝕄 := iprop(semVal (barC c) 0 ∗ ∃ W, owes (c.tc : Thread nD τ) (0 : CellTallies nD τ sig ℕ) W)

/-- The host operations before the kernel. -/
def segA : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) (Ra m)
/-- The host operations after it. -/
def segB : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) Rb

/-- The program as its segments. -/
def segs : List (Pipeline.Seg (pcfgs (F := F)) adm (pdats m) 0 defs₀ 𝒱₀ L lv) := [.host (segA m), .region (reg m), .host (segB m)]

/-- What the host's first lines leave. -/
theorem W0_eq (c : Dev nD) : StableHlo.after hostOps0 (fun b => m (c, b)) = W0 m c := rfl

/-- The buffers split at the kernel's windows. -/
theorem split_held (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) Sr W) :=
  StableHlo.held_sub_split _ (Pipeline.arrRefs_sub_ucRefs spec0 launch0.win.arr_unscoped) W

/-- What the call starts from. -/
theorem reg_pre (c : Dev nD) : iprop(StableHlo.held (c.tc : Thread nD τ) (Pipeline.ucRefs τ sig) (W0 m c) ∗ Ra m c) ⊢ (reg m).pre c := by
  show _ ⊢ iprop(StableHlo.held (c.tc : Thread nD τ) (Pipeline.arrRefs (τ := τ) spec0) (W0 m c) ∗ (∃ r, prngReg c r)
    ∗ (StableHlo.held (c.tc : Thread nD τ) Sr (W0 m c) ∗ emp) ∗ carry (kvs m) c ∗ ∃ Wd, owes (c.tc : Thread nD τ) (0 + O₀ c) Wd)
  rw [split_held, zero_add]
  unfold Ra
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

/-- What the call leaves. -/
theorem reg_post (c : Dev nD) : (reg m).post c ⊢ iprop(StableHlo.held (c.tc : Thread nD τ) (Pipeline.ucRefs τ sig) (W1 m c) ∗ Rb c) := by
  show iprop(StableHlo.held (c.tc : Thread nD τ) (Pipeline.arrRefs (τ := τ) spec0) (W1 m c) ∗ (∃ r, prngReg c r)
    ∗ (StableHlo.held (c.tc : Thread nD τ) Sr (W1 m c) ∗ emp) ∗ Yk c ∗ ∃ Wd, owes (c.tc : Thread nD τ) (0 : CellTallies nD τ sig ℕ) Wd) ⊢ _
  rw [split_held]
  unfold Rb Yk
  iintro ⟨Ha, -, ⟨Hr, -⟩, Hb, HO⟩
  isplitl [Ha Hr]
  · isplitl [Ha] <;> iassumption
  isplitl [Hb] <;> iassumption

/-! ## The launch -/

/-- A resource handed whole to one device. -/
def onDev (c₀ : Dev nD) (X : sProp 𝕄) (c : Dev nD) : sProp 𝕄 := if c = c₀ then X else iprop(emp)

/-- What is handed to one device is the product over all devices. -/
theorem sum_onDev (c₀ : Dev nD) (X : sProp 𝕄) : bigSep Finset.univ (onDev c₀ X) = X := by
  have h : ∀ c ∈ Finset.univ.erase c₀, onDev c₀ X c = (BI.emp : sProp 𝕄) := fun c hc => if_neg (Finset.ne_of_mem_erase hc)
  rw [bigSep_univ_at _ c₀, bigSep_congr h, BI.bigSep_emp_const]
  unfold onDev; rw [if_pos rfl]
  exact BI.equiv_iff.mp sep_emp

/-- The protocol's own ghost state at launch. -/
def proto : sProp 𝕄 := BI.own (ER (launchOf fam.S fam.Sd fam.T))

/-- The barrier is the only semaphore that is not the call's own. -/
theorem bar_only : (Finset.univ.filter fun sm : SemLoc sig => ¬ sm.isScoped .tc) = {barSem} := by decide

/-- So the counters at zero outside the call are the barrier's. -/
theorem zero_bar (c : Dev nD) : (unscopedSems0 c : sProp 𝕄) = semVal (barC c) 0 := by
  unfold unscopedSems0
  rw [bar_only, bigSep_singleton]

/-- Before the first host operation. -/
abbrev Ta (c : Dev nD) : sProp 𝕄 := iprop(StableHlo.held (c.tc : Thread nD τ) (Pipeline.ucRefs τ sig) (fun b => m (c, b)) ∗ Ra m c)
/-- After the last. -/
abbrev Tz (c : Dev nD) : sProp 𝕄 := iprop(StableHlo.held (c.tc : Thread nD τ) (Pipeline.ucRefs τ sig) (W2 m c) ∗ semVal (barC c) 0)

/-- What the machine gives a device, dealt out. -/
theorem deal (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ onDev 0 proto c)
    ⊢ (iprop((StableHlo.held (c.tc : Thread nD τ) (Pipeline.ucRefs τ sig) (fun b => m (c, b)) ∗ owes (c.tc : Thread nD τ) (O₀ c) ∅ ∗ ∃ r, prngReg c r)
      ∗ (semVal (barC c) 0 ∗ Pipeline.launchCred O₀ c) ∗ onDev 0 proto c) : sProp 𝕄) := by
  rw [show unscopedBufs c (fun b => m ((c.tc : Thread nD τ).loc b)) = StableHlo.held (c.tc : Thread nD τ) (Pipeline.ucRefs τ sig) (fun b => m (c, b))
      from Pipeline.unscopedBufs_held c (fun b => m (c, b)), zero_bar]
  iintro ⟨Hh, Hs, HO, Hc, Hp, HG⟩
  isplitl [Hh HO Hp]
  · isplitl [Hh]; · iexact Hh
    isplitl [HO]; · iexact HO
    iexists (ρ c); iexact Hp
  isplitl [Hs Hc]
  · isplitl [Hs] <;> iassumption
  iexact HG

/-- What a device was dealt, gathered for its run. -/
theorem gather (c : Dev nD) : (iprop((StableHlo.held (c.tc : Thread nD τ) (Pipeline.ucRefs τ sig) (fun b => m (c, b)) ∗ owes (c.tc : Thread nD τ) (O₀ c) ∅ ∗ ∃ r, prngReg c r)
      ∗ carry (kvs m) c) : sProp 𝕄) ⊢ Ta m c := by
  unfold Ta Ra
  iintro ⟨⟨Hh, HO, Hp⟩, Hk⟩
  isplitl [Hh]; · iexact Hh
  isplitl [Hk]; · iexact Hk
  isplitl [Hp]; · iexact Hp
  iexists ∅; iexact HO

/-- A product of triples is a triple of products. -/
theorem sep_three (A B C : Dev nD → sProp 𝕄) : bigSep Finset.univ (fun c => iprop(A c ∗ B c ∗ C c))
    = iprop(bigSep Finset.univ A ∗ (bigSep Finset.univ B ∗ bigSep Finset.univ C)) := by
  rw [bigSep_sep', bigSep_sep']

/-- The start of all devices, out of what the machine gives. -/
theorem init : iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ onDev 0 proto c)) ∗ levAts L lv)
    ⊢ (|={Set.univ}=> bigSep Finset.univ (Ta m) : sProp 𝕄) := by
  iintro ⟨H, -⟩
  ihave H' := (show (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ onDev 0 proto c))
      ⊢ (iprop((bigSep Finset.univ fun c : Dev nD => iprop(StableHlo.held (c.tc : Thread nD τ) (Pipeline.ucRefs τ sig) (fun b => m (c, b)) ∗ owes (c.tc : Thread nD τ) (O₀ c) ∅ ∗ ∃ r, prngReg c r))
        ∗ ((bigSep Finset.univ fun c : Dev nD => iprop(semVal (barC c) 0 ∗ Pipeline.launchCred O₀ c)) ∗ proto)) : sProp 𝕄) from by
    refine (show _ ⊢ (bigSep Finset.univ fun c : Dev nD => (iprop((StableHlo.held (c.tc : Thread nD τ) (Pipeline.ucRefs τ sig) (fun b => m (c, b)) ∗ owes (c.tc : Thread nD τ) (O₀ c) ∅ ∗ ∃ r, prngReg c r)
      ∗ (semVal (barC c) 0 ∗ Pipeline.launchCred O₀ c) ∗ onDev 0 proto c) : sProp 𝕄)) from bigSep_mono fun c _ => deal m ρ c).trans (Entails.of_eq ?_)
    refine (sep_three _ _ _).trans ?_
    rw [show bigSep Finset.univ (fun c : Dev nD => onDev 0 proto c) = proto (F := F) from sum_onDev 0 proto]) $$ H
  icases H' with ⟨HB, Hc, Hp⟩
  unfold proto
  imod (fund (kvs m)) $$ [Hc Hp] with HK
  · isplitl [Hc] <;> iassumption
  imodintro
  iapply (show iprop((bigSep Finset.univ fun c : Dev nD => iprop(StableHlo.held (c.tc : Thread nD τ) (Pipeline.ucRefs τ sig) (fun b => m (c, b)) ∗ owes (c.tc : Thread nD τ) (O₀ c) ∅ ∗ ∃ r, prngReg c r))
      ∗ bigSep Finset.univ (carry (kvs m))) ⊢ (bigSep Finset.univ (Ta m) : sProp 𝕄) from
    (Entails.of_eq (bigSep_sep' _ _ _).symm).trans (bigSep_mono fun c _ => gather m c))
  isplitl [HB] <;> iassumption

/-- A semaphore that is not the call's own is the barrier. -/
theorem bar_unscoped : ∀ sm : SemLoc sig, sm.isScoped .tc = false → sm = barSem := by decide

/-- Nobody but a tensor core waits. -/
theorem L_off (g : GSem nD τ sig) (h : g.1.2 ≠ .tc) : L g = ∅ := if_neg h

set_option backward.isDefEq.respectTransparency.types false in
/-- The run: every weakly fair execution ends, with every buffer at its computed contents and every counter at zero. -/
theorem run_main : θ_run defs (onTc (τ := τ) (main (F := F))) (s₀ m ρ)
    (fun r => (∀ c : Dev nD, ∀ b ∈ Pipeline.ucRefs τ sig, r.2.mem (c, b) = W2 m c b) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (segA m) (segB m) (reg m) rfl rfl c]; exact .rfl)
    (by simp only [segs, Pipeline.Seg.pipes_host, Pipeline.Seg.pipes_region, Pipeline.Seg.pipes_nil]; decide)
    (O₀ := O₀) (hL := L_off) (G := onDev 0 proto)
    (u₀ := (initOf (Pipeline.cells (Pipeline.pin (pcfgs (F := F)) adm) cellOf_inj) (Pipeline.launchToks (Pipeline.pin (pcfgs (F := F)) adm) cellOf_inj),
      launchOf fam.S fam.Sd fam.T))
    (hu₀ := by
      iintro Hu
      ihave H := (ownU_pair _ _) $$ Hu
      icases H with ⟨HP, HX⟩
      imodintro
      isplitl [HP]; · iexact HP
      rw [sum_onDev]; unfold proto; iexact HX)
    (T₀ := Ta m) (Tₙ := Tz m)
    (hch := by
      refine ⟨fun c => .rfl, fun c => reg_pre m c, fun c => reg_post m c, fun c => ?_⟩
      show iprop(StableHlo.held (c.tc : Thread nD τ) (Pipeline.ucRefs τ sig) (W2 m c) ∗ Rb c)
        ⊢ iprop(Tz m c ∗ ∃ W, owes (c.tc : Thread nD τ) (0 : CellTallies nD τ sig ℕ) W)
      unfold Rb
      iintro ⟨Hh, Hb0, HO⟩
      isplitr [HO]
      · isplitl [Hh] <;> iassumption
      · iexact HO)
    (hinit := init m ρ)
    (QY := fun c s => (∀ b ∈ Pipeline.ucRefs τ sig, s.mem (c, b) = W2 m c b) ∧ s.sem (barC c) = 0)
    (hfin := fun c s' => by
      dsimp only [Tz]
      unfold StableHlo.held
      iintro ⟨⟨Hh, Hb⟩, HSI⟩
      icombine HSI Hb gives %hb
      ihave Hr := (pointsTo_read_all (Pipeline.ucRefs τ sig) (fun b => ((c.tc : Thread nD τ).1, b)) (W2 m c) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c => (h c).1, sem_eq_zero hs fun c sm hsm => by
        obtain rfl := bar_unscoped sm hsm
        exact (h c).2⟩)

/-- The first argument is unchanged. -/
theorem keep0 (c : Dev nD) : W2 m c (Proc.devRef .tc main_arg0) = m ((c.tc : Thread nD τ).loc main_arg0) := by
  unfold W2
  rw [StableHlo.after_of_forall_not_mem (b := Proc.devRef .tc main_arg0) hostOps1 _ (List.forall_iff_forall_mem.mp (by
    simp only [hostOps1, List.Forall, StableHlo.reshape_writes, Finset.mem_singleton]
    exact StableHlo.devRef_ne_of_ne (by decide)))]
  unfold W1
  rw [Function.update_of_ne (StableHlo.devRef_ne_of_ne (by decide))]
  exact V_main_arg0 m c
/-- The second argument is unchanged. -/
theorem keep1 (c : Dev nD) : W2 m c (Proc.devRef .tc main_arg1) = m ((c.tc : Thread nD τ).loc main_arg1) := by
  unfold W2
  rw [StableHlo.after_of_forall_not_mem (b := Proc.devRef .tc main_arg1) hostOps1 _ (List.forall_iff_forall_mem.mp (by
    simp only [hostOps1, List.Forall, StableHlo.reshape_writes, Finset.mem_singleton]
    exact StableHlo.devRef_ne_of_ne (by decide)))]
  unfold W1
  rw [Function.update_of_ne (StableHlo.devRef_ne_of_ne (by decide))]
  exact V_main_arg1 m c
/-- The third argument is unchanged. -/
theorem keep2 (c : Dev nD) : W2 m c (Proc.devRef .tc main_arg2) = m ((c.tc : Thread nD τ).loc main_arg2) := by
  unfold W2
  rw [StableHlo.after_of_forall_not_mem (b := Proc.devRef .tc main_arg2) hostOps1 _ (List.forall_iff_forall_mem.mp (by
    simp only [hostOps1, List.Forall, StableHlo.reshape_writes, Finset.mem_singleton]
    exact StableHlo.devRef_ne_of_ne (by decide)))]
  unfold W1
  rw [Function.update_of_ne (StableHlo.devRef_ne_of_ne (by decide))]
  exact V_main_arg2 m c
/-- The fourth argument is unchanged. -/
theorem keep3 (c : Dev nD) : W2 m c (Proc.devRef .tc main_arg3) = m ((c.tc : Thread nD τ).loc main_arg3) := by
  unfold W2
  rw [StableHlo.after_of_forall_not_mem (b := Proc.devRef .tc main_arg3) hostOps1 _ (List.forall_iff_forall_mem.mp (by
    simp only [hostOps1, List.Forall, StableHlo.reshape_writes, Finset.mem_singleton]
    exact StableHlo.devRef_ne_of_ne (by decide)))]
  unfold W1
  rw [Function.update_of_ne (StableHlo.devRef_ne_of_ne (by decide))]
  exact V_main_arg3 m c
/-- The fifth argument is unchanged. -/
theorem keep4 (c : Dev nD) : W2 m c (Proc.devRef .tc main_arg4) = m ((c.tc : Thread nD τ).loc main_arg4) := by
  unfold W2
  rw [StableHlo.after_of_forall_not_mem (b := Proc.devRef .tc main_arg4) hostOps1 _ (List.forall_iff_forall_mem.mp (by
    simp only [hostOps1, List.Forall, StableHlo.reshape_writes, Finset.mem_singleton]
    exact StableHlo.devRef_ne_of_ne (by decide)))]
  unfold W1
  rw [Function.update_of_ne (StableHlo.devRef_ne_of_ne (by decide))]
  exact V_main_arg4 m c

/-- What the result holds: the block the kernel stored, reshaped. -/
theorem result_eq (c : Dev nD) : W2 m c (Proc.devRef .tc main_v8) = shapeCast S2x128x512 (outB m c) shapeCasts_S256x512_S2x128x512 := by
  unfold W2
  show StableHlo.after hostOps1 _ _ = _
  after_results
  unfold W1
  rw [Function.update_self]
  rfl

/-- An argument is among the buffers that a device holds. -/
theorem arg_mem (b : Ref sig .tc) (h : b.isScoped = false) : (Proc.devRef .tc b : DevRef τ sig) ∈ Pipeline.ucRefs τ sig := Pipeline.devRef_mem_ucRefs h

/-- The arguments end as they began, the counters at zero, and the result holds the block the kernel stored. -/
theorem run_value : θ_run defs (onTc (τ := τ) (main (F := F))) ⟨m, fun _ => 0, ρ⟩
    (fun r => (∀ c : Dev nD, r.2.mem ((c.tc : Thread nD τ).loc main_v8) = shapeCast S2x128x512 (outB m c) shapeCasts_S256x512_S2x128x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c _ (arg_mem main_v8 rfl)).trans (result_eq m c),
    (h.1 c _ (arg_mem main_arg0 rfl)).trans (keep0 m c), (h.1 c _ (arg_mem main_arg1 rfl)).trans (keep1 m c),
    (h.1 c _ (arg_mem main_arg2 rfl)).trans (keep2 m c), (h.1 c _ (arg_mem main_arg3 rfl)).trans (keep3 m c),
    (h.1 c _ (arg_mem main_arg4 rfl)).trans (keep4 m c)⟩, h.2⟩) (run_main m ρ)

end Cert.KernelIdeal.Att

end
-- ==== Proof.Soft.lean ====
/-
Softmax by blocks, over the extended reals.

The columns of one query are numbered by a type `κ`; column `k` has a score `s k` and a value `v k`. After the
columns of a finite set `T` the running state is `st s v T`: the largest score, the sum of the exponentials
of the scores less it, and the sum of the values weighted by those exponentials. `step_st` says that the update by
one more block turns the state of `T` into the state of `T` and the block, whatever the scores: where they are
infinite, too. So the final state depends on the columns and not on the order in which the blocks come.
-/
module

public import Idealize.ShloMosaic.PureOps.Ideal

@[expose] public section

noncomputable section

namespace Cert.Soft

open Idealize.ShloMosaic

/-- The running state of one query and one value column. -/
structure Tri where
  /-- the largest score -/
  m : EReal
  /-- the sum of the exponentials -/
  l : EReal
  /-- the weighted sum of the values -/
  a : EReal

/-- The update by one block of columns. -/
def step {ι : Type} [Fintype ι] (s v : ι → EReal) (t : Tri) : Tri where
  m := max t.m (Finset.univ.sup s)
  l := t.l * Ideal.exp (t.m - max t.m (Finset.univ.sup s)) + ∑ q, Ideal.exp (s q - max t.m (Finset.univ.sup s))
  a := t.a * Ideal.exp (t.m - max t.m (Finset.univ.sup s)) + ∑ q, Ideal.exp (s q - max t.m (Finset.univ.sup s)) * v q

/-- The state before any column. -/
def init : Tri := ⟨⊥, 0, 0⟩

variable {κ : Type} [DecidableEq κ]

/-- The state after the columns of `T`. -/
def st (s v : κ → EReal) (T : Finset κ) : Tri where
  m := T.sup s
  l := ∑ k ∈ T, Ideal.exp (s k - T.sup s)
  a := ∑ k ∈ T, Ideal.exp (s k - T.sup s) * v k

omit [DecidableEq κ] in
/-- The state of no column is the first one. -/
theorem st_empty (s v : κ → EReal) : st s v ∅ = init := by
  simp [st, init]

omit [DecidableEq κ] in
/-- A finite nonnegative factor goes into a sum. -/
theorem sum_mul_coe (T : Finset κ) (f : κ → EReal) {c : ℝ} (hc : 0 ≤ c) :
    (∑ k ∈ T, f k) * (c : EReal) = ∑ k ∈ T, f k * (c : EReal) := by
  classical
  induction T using Finset.induction_on with
  | empty => simp
  | insert a T ha ih =>
    rw [Finset.sum_insert ha, Finset.sum_insert ha, ← ih]
    exact EReal.right_distrib_of_nonneg_of_ne_top (EReal.coe_nonneg.mpr hc) (EReal.coe_ne_top c) _ _

/-- The exponential of a score less the maximum, brought to a larger finite maximum. -/
theorem exp_rebase {x : EReal} {M m' : ℝ} (hx : x ≤ (M : EReal)) :
    Ideal.exp (x - (M : EReal)) * ((Real.exp (M - m') : ℝ) : EReal) = Ideal.exp (x - (m' : EReal)) := by
  induction x with
  | bot => simp [EReal.bot_sub]
  | top => exact absurd hx (by simp)
  | coe x =>
    rw [← EReal.coe_sub, ← EReal.coe_sub, Ideal.exp_coe, Ideal.exp_coe, ← EReal.coe_mul, ← Real.exp_add]
    congr 2
    ring

omit [DecidableEq κ] in
/-- Rescaling: the weighted sum under one maximum, times the factor, is the weighted sum under the larger one. -/
theorem rebase (s v : κ → EReal) (T : Finset κ) {M m' : EReal} (hM : ∀ k ∈ T, s k ≤ M) (hm : M ≤ m') :
    (∑ k ∈ T, Ideal.exp (s k - M) * v k) * Ideal.exp (M - m') = ∑ k ∈ T, Ideal.exp (s k - m') * v k := by
  rcases eq_or_ne m' ⊤ with rfl | hm'
  · have h : ∀ x : EReal, Ideal.exp (x - ⊤) = 0 := fun x => by rw [EReal.sub_top]; rfl
    simp [h]
  rcases eq_or_ne M ⊥ with rfl | hM'
  · have h : ∀ k ∈ T, s k = ⊥ := fun k hk => le_bot_iff.mp (hM k hk)
    have z : ∀ x : EReal, ∀ k ∈ T, Ideal.exp (s k - x) * v k = 0 := fun x k hk => by
      rw [h k hk, EReal.bot_sub, Ideal.exp_bot, zero_mul]
    rw [Finset.sum_eq_zero (z ⊥), Finset.sum_eq_zero (z m'), zero_mul]
  have hMt : M ≠ ⊤ := fun h => hm' (top_le_iff.mp (h ▸ hm))
  have hmb : m' ≠ ⊥ := fun h => hM' (le_bot_iff.mp (h ▸ hm))
  lift M to ℝ using ⟨hMt, hM'⟩
  lift m' to ℝ using ⟨hm', hmb⟩
  rw [← EReal.coe_sub, Ideal.exp_coe, sum_mul_coe _ _ (Real.exp_pos _).le]
  refine Finset.sum_congr rfl fun k hk => ?_
  rw [mul_right_comm, exp_rebase (hM k hk)]

omit [DecidableEq κ] in
/-- The same for the sum of the exponentials. -/
theorem rebase_one (s : κ → EReal) (T : Finset κ) {M m' : EReal} (hM : ∀ k ∈ T, s k ≤ M) (hm : M ≤ m') :
    (∑ k ∈ T, Ideal.exp (s k - M)) * Ideal.exp (M - m') = ∑ k ∈ T, Ideal.exp (s k - m') := by
  have h := rebase s (fun _ => 1) T hM hm
  simpa only [mul_one] using h

/-- One block more. The block's scores and values are those of the columns of `B`, and what else it holds
weighs nothing. -/
theorem step_st {ι : Type} [Fintype ι] (s v : κ → EReal) (T B : Finset κ) (hd : Disjoint T B) (sb vb : ι → EReal)
    (hs : Finset.univ.sup sb = B.sup s)
    (hl : ∀ m', ∑ q, Ideal.exp (sb q - m') = ∑ k ∈ B, Ideal.exp (s k - m'))
    (ha : ∀ m', ∑ q, Ideal.exp (sb q - m') * vb q = ∑ k ∈ B, Ideal.exp (s k - m') * v k) :
    step sb vb (st s v T) = st s v (T ∪ B) := by
  have hT : ∀ k ∈ T, s k ≤ T.sup s := fun k hk => Finset.le_sup hk
  have hM : T.sup s ≤ max (T.sup s) (B.sup s) := le_max_left _ _
  unfold step st
  simp only [hs, hl, ha]
  rw [Finset.sup_union, Finset.sum_union hd, Finset.sum_union hd, rebase_one s T hT hM, rebase s v T hT hM]

/-- A block whose columns are the image of its index. -/
theorem step_image {ι : Type} [Fintype ι] (s v : κ → EReal) (T : Finset κ) (g : ι → κ) (hg : Function.Injective g)
    (hd : Disjoint T (Finset.univ.image g)) :
    step (fun q => s (g q)) (fun q => v (g q)) (st s v T) = st s v (T ∪ Finset.univ.image g) := by
  refine step_st s v T _ hd _ _ ?_ (fun m' => ?_) (fun m' => ?_)
  · rw [Finset.sup_image]; rfl
  · rw [Finset.sum_image hg.injOn]
  · rw [Finset.sum_image hg.injOn]

/-- A block of which some columns are masked out. -/
theorem step_masked {ι ρ : Type} [Fintype ι] [Fintype ρ] [DecidableEq ι] (s v : κ → EReal) (T : Finset κ) (g : ρ → κ) (hg : Function.Injective g)
    (hd : Disjoint T (Finset.univ.image g)) (sb vb : ι → EReal) (f : ρ → ι) (hf : Function.Injective f)
    (hs : ∀ x, sb (f x) = s (g x)) (hv : ∀ x, vb (f x) = v (g x)) (hm : ∀ q, (∀ x, f x ≠ q) → sb q = ⊥) :
    step sb vb (st s v T) = st s v (T ∪ Finset.univ.image g) := by
  have hout : ∀ q, q ∉ Finset.univ.image f → sb q = ⊥ := fun q hq => hm q fun x hx =>
    hq (Finset.mem_image.mpr ⟨x, Finset.mem_univ _, hx⟩)
  refine step_st s v T _ hd _ _ ?_ (fun m' => ?_) (fun m' => ?_)
  · rw [Finset.sup_image]
    refine le_antisymm (Finset.sup_le fun q _ => ?_) (Finset.sup_le fun x _ => ?_)
    · by_cases hq : q ∈ Finset.univ.image f
      · obtain ⟨x, -, rfl⟩ := Finset.mem_image.mp hq
        rw [hs]
        exact Finset.le_sup (f := s ∘ g) (Finset.mem_univ x)
      · rw [hout q hq]; exact bot_le
    · show s (g x) ≤ _
      rw [← hs]
      exact Finset.le_sup (Finset.mem_univ _)
  · rw [Finset.sum_image hg.injOn, ← Finset.sum_subset (Finset.subset_univ (Finset.univ.image f))
      fun q _ hq => by rw [hout q hq, EReal.bot_sub, Ideal.exp_bot], Finset.sum_image hf.injOn]
    exact Finset.sum_congr rfl fun x _ => by rw [hs]
  · rw [Finset.sum_image hg.injOn, ← Finset.sum_subset (Finset.subset_univ (Finset.univ.image f))
      fun q _ hq => by rw [hout q hq, EReal.bot_sub, Ideal.exp_bot, zero_mul], Finset.sum_image hf.injOn]
    exact Finset.sum_congr rfl fun x _ => by rw [hs, hv]

end Cert.Soft

end
-- ==== Proof.Spec.lean ====
/-
The attention as one function of the whole arrays, index by index.

Both programs are shown to compute it: the reference from four chunks of a thousand and twenty-four columns, each
device of the kernel from thirty-two blocks of a hundred and twenty-eight columns, in the order in which they arrive.
-/
module

public import proofs.«01_k».proof.Proof.Soft
public import Idealize.ShloMosaic.Lib.Pointwise

@[expose] public section

noncomputable section

namespace Cert.Soft

open Idealize.ShloMosaic

/-- The scale of the scores. -/
abbrev scale : EReal := Ideal.ofBits FTy.f32 1040187392#32

variable (X : FVec Ideal ⟨3, ![2, 4096, 512]⟩ .f32) (WQ : FVec Ideal ⟨2, ![512, 512]⟩ .f32)
  (K V : FVec Ideal ⟨4, ![2, 4096, 8, 64]⟩ .f32) (WO : FVec Ideal ⟨2, ![512, 512]⟩ .f32)

/-- Column `e` of head `h` among all columns. -/
abbrev hcol (h : Fin 8) (e : Fin 64) : Fin 512 := ⟨64 * h.val + e.val, by omega⟩

/-- The queries. -/
def qry (b : Fin 2) (i : Fin 4096) (c : Fin 512) : EReal := ∑ k : Fin 512, X (ix3 b i k) * WQ (ix2 k c)

/-- The scores of one query in one head. -/
def sco (b : Fin 2) (i : Fin 4096) (h : Fin 8) (k : Fin 4096) : EReal :=
  (∑ d : Fin 64, qry X WQ b i (hcol h d) * K (ix4 b k h d)) * scale

/-- The values of one head's column. -/
def val (b : Fin 2) (h : Fin 8) (e : Fin 64) (k : Fin 4096) : EReal := V (ix4 b k h e)

/-- The state of one query, head and value column after the columns of `T`. -/
def att (b : Fin 2) (i : Fin 4096) (h : Fin 8) (e : Fin 64) (T : Finset (Fin 4096)) : Tri := st (sco X WQ K b i h) (val V b h e) T

/-- The quotient, by its column among all heads'. -/
def quo (b : Fin 2) (i : Fin 4096) (c : Fin 512) : EReal :=
  Ideal.div (att X WQ K V b i ⟨c.val / 64, by omega⟩ ⟨c.val % 64, Nat.mod_lt _ (by decide)⟩ Finset.univ).a
    (att X WQ K V b i ⟨c.val / 64, by omega⟩ ⟨c.val % 64, Nat.mod_lt _ (by decide)⟩ Finset.univ).l

/-- The result. -/
def out (b : Fin 2) (i : Fin 4096) (o : Fin 512) : EReal := ∑ c : Fin 512, quo X WQ K V b i c * WO (ix2 c o)

/-- The result as an array. -/
def outArr : FVec Ideal ⟨3, ![2, 4096, 512]⟩ .f32 := fun x => out X WQ K V WO (x 0) (x 1) (x 2)

/-- Column `j` of block `d`, where a block has `n` columns. -/
def col {p n : ℕ} (hp : p * n = 4096) (d : Fin p) (j : Fin n) : Fin 4096 :=
  ⟨n * d.val + j.val, by
    have h1 : n * d.val + n ≤ n * p := by rw [← Nat.mul_succ]; exact Nat.mul_le_mul_left n d.isLt
    have h2 := j.isLt
    rw [Nat.mul_comm n p, hp] at h1
    omega⟩

/-- Different columns of a block are different columns of the whole. -/
theorem col_inj {p n : ℕ} (hp : p * n = 4096) (d : Fin p) : Function.Injective (col hp d) := fun i j h =>
  Fin.ext (Nat.add_left_cancel (congrArg Fin.val h))

/-- A column tells its block. -/
theorem col_div {p n : ℕ} (hp : p * n = 4096) (d : Fin p) (j : Fin n) : (col hp d j).val / n = d.val := by
  have hn : 0 < n := Nat.pos_of_ne_zero fun h => by subst h; omega
  show (n * d.val + j.val) / n = d.val
  rw [Nat.mul_add_div hn, Nat.div_eq_of_lt j.isLt, Nat.add_zero]

/-- The columns of the blocks of `D`. -/
def cols {p n : ℕ} (hp : p * n = 4096) (D : Finset (Fin p)) : Finset (Fin 4096) := D.biUnion fun d => Finset.univ.image (col hp d)

/-- One more block adds its columns. -/
theorem cols_insert {p n : ℕ} (hp : p * n = 4096) (d : Fin p) (D : Finset (Fin p)) :
    cols hp (insert d D) = cols hp D ∪ Finset.univ.image (col hp d) := by
  rw [cols, Finset.biUnion_insert, Finset.union_comm]; rfl

/-- A new block's columns are new. -/
theorem cols_disjoint {p n : ℕ} (hp : p * n = 4096) {d : Fin p} {D : Finset (Fin p)} (hd : d ∉ D) :
    Disjoint (cols hp D) (Finset.univ.image (col hp d)) := by
  refine Finset.disjoint_left.mpr fun k hk hk' => hd ?_
  obtain ⟨d', hd', hk⟩ := Finset.mem_biUnion.mp hk
  obtain ⟨j', -, rfl⟩ := Finset.mem_image.mp hk
  obtain ⟨j, -, hj⟩ := Finset.mem_image.mp hk'
  have h := congrArg (fun x : Fin 4096 => x.val / n) hj
  rw [show d = d' from Fin.ext (by simpa only [col_div] using h)]
  exact hd'

/-- All blocks hold all columns. -/
theorem cols_univ {p n : ℕ} (hp : p * n = 4096) : cols hp (Finset.univ : Finset (Fin p)) = Finset.univ := by
  have hn : 0 < n := Nat.pos_of_ne_zero fun h => by subst h; omega
  refine Finset.eq_univ_iff_forall.mpr fun k => Finset.mem_biUnion.mpr
    ⟨⟨k.val / n, Nat.div_lt_of_lt_mul (by rw [Nat.mul_comm, hp]; exact k.isLt)⟩, Finset.mem_univ _, Finset.mem_image.mpr
      ⟨⟨k.val % n, Nat.mod_lt _ hn⟩, Finset.mem_univ _, Fin.ext (Nat.div_add_mod _ _)⟩⟩

/-- The number the negative infinity's bits stand for. -/
theorem ofBits_neg_inf : Ideal.ofBits FTy.f32 4286578688#32 = ⊥ := by simp [Ideal.ofBits, Ideal.ieee]

/-- A maximum folded from the bottom is a supremum. -/
theorem fold_max_eq_sup {ι : Type} [Fintype ι] (f : ι → EReal) : Finset.fold max ⊥ f Finset.univ = Finset.univ.sup f := rfl

end Cert.Soft

end
-- ==== Proof.ReadKI.lean ====
/- What one step of the kernel does to a head's state, read at one row and one value column: a step of the online
   softmax of Soft.lean over the scores of one block. -/
module

public import proofs.«01_k».proof.Proof.TripKI
public import proofs.«01_k».proof.Proof.Spec
public import Idealize.ShloMosaic.Lib.Pointwise
public import Idealize.ShloMosaic.PureOps.IdealRules

@[expose] public section

noncomputable section

namespace Cert.KernelIdeal.Att

open Cert.KernelIdeal.Gen Cert.Soft
open Idealize.ShloMosaic

/-- One head's state at one row and one value column. -/
def HeadSt.tri (s : HeadSt Ideal) (r : Fin 256) (e : Fin 64) : Tri := ⟨s.m (ix2 r 0), s.l (ix2 r 0), s.a (ix2 r e)⟩

/-- Head number `n / 64`'s scores of row `r`. -/
def rowScores (q k : FVec Ideal S256x512 .f32) (n : ℕ) (hn : n + 64 ≤ 512) (r c : Fin 256) : EReal :=
  if (r.val < 128 ↔ c.val < 128) then (∑ d : Fin 64, q (ix2 r ⟨n + d.val, by omega⟩) * k (ix2 c ⟨n + d.val, by omega⟩)) * scale else ⊥

/-- The comparison of a coordinate with half the rows. -/
theorem slt_128 (x : Fin 256) : IntOp.cmpi CmpIPredicate.slt (BitVec.ofNat 32 x.val) 128#32 = if x.val < 128 then 1#1 else 0#1 := by
  revert x; decide +kernel

set_option maxRecDepth 16384 in
/-- The mask: query and key of one batch. -/
theorem mask_read (r c : Fin 256) : k0_pay114 (ix2 r c) = if (r.val < 128 ↔ c.val < 128) then 1#1 else 0#1 := by
  pointwise [k0_pay114]
  rw [slt_128, slt_128]
  by_cases hr : r.val < 128 <;> by_cases hc : c.val < 128 <;> simp [hr, hc, IntOp.xori]

set_option maxRecDepth 16384 in
/-- The masked scores of a head. -/
theorem score_read (n : ℕ) (hn : n + 64 ≤ 512) (hq hk : S256x512.Slices ![0, n] S256x64) (q k : FVec Ideal S256x512 .f32) (r c : Fin 256) :
    score (neg (F := Ideal)) k0_pay114 (extractStridedSlice S256x64 ![0, n] q hq) (extractStridedSlice S256x64 ![0, n] k hk) (ix2 r c)
      = rowScores q k n hn r c := by
  have hneg : neg (F := Ideal) = (⊥ : EReal) := IdealRules.named_const.ideal_named_scalar _ _ _ _ rfl
  unfold rowScores
  pointwise [score]
  rw [mask_read, hneg]
  by_cases h : (r.val < 128 ↔ c.val < 128)
  · rw [if_pos h, if_pos h]; rfl
  · rw [if_neg h, if_neg h]; rfl

set_option maxRecDepth 16384 in
/-- One head's update, read at a row and a value column. -/
theorem headStep_tri (n : ℕ) (hn : n + 64 ≤ 512) (ho : S256x512.Slices ![0, n] S256x64)
    (q k v : FVec Ideal S256x512 .f32) (s : HeadSt Ideal) (r : Fin 256) (e : Fin 64) :
    (headStep neg k0_pay114 ![0, n] ho q k v s).tri r e
      = step (rowScores q k n hn r) (fun c => v (ix2 c ⟨n + e.val, by omega⟩)) (s.tri r e) := by
  have hs : rowScores q k n hn r = fun c => score (neg (F := Ideal)) k0_pay114 (extractStridedSlice S256x64 ![0, n] q ho)
      (extractStridedSlice S256x64 ![0, n] k ho) (ix2 r c) := funext fun c => (score_read n hn ho ho q k r c).symm
  rw [hs]
  unfold headStep HeadSt.tri step
  dsimp only
  generalize score (neg (F := Ideal)) k0_pay114 _ _ = sc
  refine Tri.mk.injEq .. |>.mpr ⟨?_, ?_, ?_⟩
  · pointwise
    rw [ofBits_neg_inf, fold_max_eq_sup]
  · pointwise
    rw [ofBits_neg_inf, fold_max_eq_sup]
  · pointwise
    rw [ofBits_neg_inf, fold_max_eq_sup]

set_option maxRecDepth 16384 in
/-- The first state. -/
theorem headInit_tri (r : Fin 256) (e : Fin 64) : (headInit (neg (F := Ideal))).tri r e = init := by
  have hneg : neg (F := Ideal) = (⊥ : EReal) := IdealRules.named_const.ideal_named_scalar _ _ _ _ rfl
  unfold headInit HeadSt.tri init
  refine Tri.mk.injEq .. |>.mpr ⟨?_, ?_, ?_⟩
  · exact hneg
  · pointwise
  · pointwise

/-- The head of a number. -/
def St.head (s : St Ideal) : Fin 8 → HeadSt Ideal := ![s.h0, s.h1, s.h2, s.h3, s.h4, s.h5, s.h6, s.h7]

/-- A block's update, head by head. -/
theorem consume_head (q k v : FVec Ideal S256x512 .f32) (s : St Ideal) (h : Fin 8) (r : Fin 256) (e : Fin 64) :
    ((consume neg k0_pay114 q k v s).head h).tri r e
      = step (rowScores q k (64 * h.val) (by omega) r) (fun c => v (ix2 c ⟨64 * h.val + e.val, by omega⟩)) ((s.head h).tri r e) := by
  fin_cases h <;> exact headStep_tri _ _ _ _ _ _ _ _ _

/-- Every head's first state. -/
theorem initSt_head (h : Fin 8) (r : Fin 256) (e : Fin 64) : ((initSt (neg (F := Ideal))).head h).tri r e = init := by
  fin_cases h <;> exact headInit_tri _ _

set_option maxRecDepth 16384 in
/-- The queries at an index. -/
theorem queries_read (x : Vec Ideal S256x512 .f32) (wq : Vec Ideal S512x512 .f32) (r : Fin 256) (c : Fin 512) :
    queries (F := Ideal) x wq (ix2 r c) = ∑ k : Fin 512, x (ix2 r k) * wq (ix2 k c) := by
  pointwise [queries]

set_option maxRecDepth 16384 in
/-- A quotient. -/
theorem headOut_read (s : HeadSt Ideal) (r : Fin 256) (e : Fin 64) : headOut s (ix2 r e) = Ideal.div (s.tri r e).a (s.tri r e).l := by
  pointwise [headOut, HeadSt.tri]

/-- The quotient of a head and a value column. -/
def quot (s : St Ideal) (r : Fin 256) (c : Fin 512) : EReal :=
  Ideal.div ((s.head ⟨c.val / 64, by omega⟩).tri r ⟨c.val % 64, Nat.mod_lt _ (by decide)⟩).a
    ((s.head ⟨c.val / 64, by omega⟩).tri r ⟨c.val % 64, Nat.mod_lt _ (by decide)⟩).l

/-- The quotient by head and value column. -/
theorem quot_eq (s : St Ideal) (r : Fin 256) (c : Fin 512) (h : Fin 8) (e : Fin 64) (hc : c.val = 64 * h.val + e.val) :
    quot s r c = headOut (s.head h) (ix2 r e) := by
  have h1 : (⟨c.val / 64, by omega⟩ : Fin 8) = h := Fin.ext (by show c.val / 64 = h.val; omega)
  have h2 : (⟨c.val % 64, Nat.mod_lt _ (by decide)⟩ : Fin 64) = e := Fin.ext (by show c.val % 64 = e.val; omega)
  rw [headOut_read, quot, h1, h2]

set_option maxRecDepth 16384 in
/-- The stored block at an index. -/
theorem outBlock_read (s : St Ideal) (wo : Vec Ideal S512x512 .f32) (r : Fin 256) (o : Fin 512) :
    outBlock (F := Ideal) s wo (ix2 r o) = ∑ c : Fin 512, quot s r c * wo (ix2 c o) := by
  pointwise [outBlock]
  refine Finset.sum_congr rfl fun c _ => congrArg (· * wo (ix2 c o)) ?_
  by_cases h0 : c.val < 64
  · exact (dif_pos h0).trans (quot_eq s r c 0 ⟨c.val, h0⟩ (by show c.val = 64 * 0 + (c.val); omega)).symm
  refine (dif_neg h0).trans ?_
  by_cases h1 : c.val - 64 < 64
  · exact (dif_pos h1).trans (quot_eq s r c 1 ⟨c.val - 64, h1⟩ (by show c.val = 64 * 1 + (c.val - 64); omega)).symm
  refine (dif_neg h1).trans ?_
  by_cases h2 : c.val - 64 - 64 < 64
  · exact (dif_pos h2).trans (quot_eq s r c 2 ⟨c.val - 64 - 64, h2⟩ (by show c.val = 64 * 2 + (c.val - 64 - 64); omega)).symm
  refine (dif_neg h2).trans ?_
  by_cases h3 : c.val - 64 - 64 - 64 < 64
  · exact (dif_pos h3).trans (quot_eq s r c 3 ⟨c.val - 64 - 64 - 64, h3⟩ (by show c.val = 64 * 3 + (c.val - 64 - 64 - 64); omega)).symm
  refine (dif_neg h3).trans ?_
  by_cases h4 : c.val - 64 - 64 - 64 - 64 < 64
  · exact (dif_pos h4).trans (quot_eq s r c 4 ⟨c.val - 64 - 64 - 64 - 64, h4⟩ (by show c.val = 64 * 4 + (c.val - 64 - 64 - 64 - 64); omega)).symm
  refine (dif_neg h4).trans ?_
  by_cases h5 : c.val - 64 - 64 - 64 - 64 - 64 < 64
  · exact (dif_pos h5).trans (quot_eq s r c 5 ⟨c.val - 64 - 64 - 64 - 64 - 64, h5⟩ (by show c.val = 64 * 5 + (c.val - 64 - 64 - 64 - 64 - 64); omega)).symm
  refine (dif_neg h5).trans ?_
  by_cases h6 : c.val - 64 - 64 - 64 - 64 - 64 - 64 < 64
  · exact (dif_pos h6).trans (quot_eq s r c 6 ⟨c.val - 64 - 64 - 64 - 64 - 64 - 64, h6⟩ (by show c.val = 64 * 6 + (c.val - 64 - 64 - 64 - 64 - 64 - 64); omega)).symm
  refine (dif_neg h6).trans ?_
  exact (quot_eq s r c 7 ⟨c.val - 64 - 64 - 64 - 64 - 64 - 64 - 64, by omega⟩
    (by show c.val = 64 * 7 + (c.val - 64 - 64 - 64 - 64 - 64 - 64 - 64); omega)).symm

end Cert.KernelIdeal.Att

end
-- ==== Proof.ValKI.lean ====
/-
What each device of the kernel stores, index by index: its rows of the attention of the whole arrays.
-/
module

public import proofs.«01_k».proof.Proof.RunKI
public import proofs.«01_k».proof.Proof.ReadKI
public import Idealize.ShloMosaic.Lib.Layout

@[expose] public section

noncomputable section

namespace Cert.KernelIdeal.Att

open Cert.KernelIdeal.Gen Cert.Soft
open Idealize.ShloMosaic Idealize.ShloMosaic.TcCoe

/-! ## The order of the blocks -/

/-- The devices whose blocks `c` has taken after its own and `n` from each side. -/
def arr (c : Dev nD) : ℕ → Finset (Dev nD)
  | 0 => insert c ∅
  | n + 1 => insert (nx^[n + 1] c) (insert (pv^[n + 1] c) (arr c n))

/-- No block comes twice. -/
theorem arr_new : ∀ c : Dev nD, ∀ n : Fin 15, pv^[n.val + 1] c ∉ arr c n.val ∧ nx^[n.val + 1] c ∉ insert (pv^[n.val + 1] c) (arr c n.val) := by
  decide +kernel
/-- The last block is new, -/
theorem arr_last : ∀ c : Dev nD, pv^[16] c ∉ arr c 15 := by decide +kernel
/-- and with it every block has come. -/
theorem arr_all : ∀ c : Dev nD, insert (pv^[16] c) (arr c 15) = Finset.univ := by decide +kernel

/-! ## A device's state, block by block -/

section
variable (X : FVec Ideal ⟨3, ![2, 4096, 512]⟩ .f32) (WQ : FVec Ideal ⟨2, ![512, 512]⟩ .f32)
  (K V : FVec Ideal ⟨4, ![2, 4096, 8, 64]⟩ .f32) (WO : FVec Ideal ⟨2, ![512, 512]⟩ .f32)
  (kv : Dev nD → Blk Ideal) (c : Dev nD) (q : FVec Ideal S256x512 .f32)

/-- Thirty-two blocks of a hundred and twenty-eight columns. -/
theorem cut : 32 * 128 = 4096 := rfl

/-- Row `i` of batch `b` among a block's rows. -/
abbrev row (b : Fin 2) (i : Fin 128) : Fin 256 := ⟨128 * b.val + i.val, by omega⟩

/-- The blocks are the whole keys' and values' blocks. -/
def Holds : Prop := ∀ (d : Dev nD) (b : Fin 2) (j : Fin 128) (h : Fin 8) (e : Fin 64),
  kk (kv d) (ix2 (row b j) (hcol h e)) = K (ix4 b (col cut d j) h e) ∧ vv (kv d) (ix2 (row b j) (hcol h e)) = V (ix4 b (col cut d j) h e)

/-- The device's queries are its rows of the whole queries. -/
def Asks : Prop := ∀ (b : Fin 2) (i : Fin 128) (o : Fin 512), q (ix2 (row b i) o) = qry X WQ b (col cut c i) o

/-- The state after the blocks of `D`. -/
def After (D : Finset (Dev nD)) (s : St Ideal) : Prop := ∀ (b : Fin 2) (i : Fin 128) (h : Fin 8) (e : Fin 64),
  (s.head h).tri (row b i) e = att X WQ K V b (col cut c i) h e (cols cut D)

variable {X WQ K V WO kv c q}

/-- Before any block. -/
theorem after_init : After X WQ K V c ∅ (initSt neg) := fun b i h e => by
  rw [initSt_head]; exact (st_empty _ _).symm

/-- One block more. -/
theorem after_eat (hkv : Holds K V kv) (hq : Asks X WQ c q) {D : Finset (Dev nD)} {s : St Ideal} (hs : After X WQ K V c D s)
    {d : Dev nD} (hd : d ∉ D) : After X WQ K V c (insert d D) (eat q (kv d) s) := fun b i h e => by
  unfold eat
  rw [consume_head, hs b i h e, cols_insert]
  refine step_masked _ _ _ (col cut d) (col_inj cut d) (cols_disjoint cut hd) _ _ (row b) (fun x y hxy => ?_) (fun x => ?_) (fun x => ?_)
    (fun r hr => ?_)
  · exact Fin.ext (Nat.add_left_cancel (congrArg Fin.val hxy))
  · unfold rowScores sco
    rw [if_pos (by show 128 * b.val + i.val < 128 ↔ 128 * b.val + x.val < 128; omega)]
    refine congrArg (· * scale) (Finset.sum_congr rfl fun y _ => ?_)
    rw [← hq b i (hcol h y), ← (hkv d b x h y).1]
  · exact (hkv d b x h e).2
  · unfold rowScores
    refine if_neg fun hb => ?_
    have hb' : 128 * b.val + i.val < 128 ↔ r.val < 128 := hb
    have h1 := i.isLt
    have h2 := r.isLt
    have h3 := b.isLt
    exact hr ⟨r.val - 128 * b.val, by omega⟩ (Fin.ext (by show 128 * b.val + (r.val - 128 * b.val) = r.val; omega))

/-- After the own block and `n` from each side. -/
theorem after_run (hkv : Holds K V kv) (hq : Asks X WQ c q) : ∀ n, n ≤ 15 → After X WQ K V c (arr c n) (run kv c q (eat q (kv c) (initSt neg)) n)
  | 0, _ => after_eat hkv hq after_init (Finset.notMem_empty _)
  | n + 1, hn => by
    obtain ⟨h1, h2⟩ := arr_new c ⟨n, hn⟩
    exact after_eat hkv hq (after_eat hkv hq (after_run hkv hq n (by omega)) h1) h2

/-- After all blocks. -/
theorem after_result (hkv : Holds K V kv) (hq : Asks X WQ c q) : After X WQ K V c Finset.univ (result kv c q) := by
  have h := after_eat hkv hq (after_run hkv hq 15 le_rfl) (arr_last c)
  rw [arr_all] at h
  exact h

/-- The stored block. -/
theorem stored (hkv : Holds K V kv) (hq : Asks X WQ c q) (b : Fin 2) (i : Fin 128) (o : Fin 512) :
    outBlock (result kv c q) WO (ix2 (row b i) o) = out X WQ K V WO b (col cut c i) o := by
  rw [outBlock_read]
  refine Finset.sum_congr rfl fun x _ => congrArg (· * WO (ix2 x o)) ?_
  unfold quot quo
  rw [after_result hkv hq b i _ _, cols_univ]
end

end Cert.KernelIdeal.Att

end
-- ==== Proof.EndKI.lean ====
/-
The result of the kernel's program, as blocks of the attention of the whole arrays.
-/
module

public import proofs.«01_k».proof.Proof.ValKI

@[expose] public section

noncomputable section

namespace Cert.KernelIdeal.Att

open Cert.KernelIdeal.Gen Cert.Soft
open Idealize.ShloMosaic Idealize.ShloMosaic.TcCoe

variable (m : (ℓ : Loc nD τ sig) → Buf (Elt Ideal) ℓ) (d : Dev nD)

/-- The rows of the input, as the kernel takes them. -/
theorem v1_eq : V0 m d (Proc.devRef .tc main_v1) = shapeCast S256x512 (m ((d.tc : Thread nD τ).loc main_arg0)) shapeCasts_S2x128x512_S256x512 := by
  show StableHlo.after hostOps0 _ _ = _; after_results; rfl
/-- The query weights, -/
theorem wq_eq : V0 m d (Proc.devRef .tc main_arg1) = m ((d.tc : Thread nD τ).loc main_arg1) := by
  show StableHlo.after hostOps0 _ _ = _; after_results
/-- and the output weights. -/
theorem wo_eq : V0 m d (Proc.devRef .tc main_arg4) = m ((d.tc : Thread nD τ).loc main_arg4) := by
  show StableHlo.after hostOps0 _ _ = _; after_results
/-- The block of keys and values. -/
theorem kvs_eq : kvs m d = concatenate S2x256x512 0
    [⟨S1x256x512, broadcastInDim S1x256x512 ![1, 2] bcast_S256x512_S1x256x512_1_2
      (shapeCast S256x512 (m ((d.tc : Thread nD τ).loc main_arg2)) shapeCasts_S2x128x8x64_S256x512)⟩,
     ⟨S1x256x512, broadcastInDim S1x256x512 ![1, 2] bcast_S256x512_S1x256x512_1_2
      (shapeCast S256x512 (m ((d.tc : Thread nD τ).loc main_arg3)) shapeCasts_S2x128x8x64_S256x512)⟩]
    concatenates_S1x256x512_S1x256x512_S2x256x512_d0 := by
  show StableHlo.after hostOps0 _ _ = _; after_results; rfl

/-- A block of keys beside a block of values: the keys, -/
theorem cat_fst (A B : FVec Ideal S256x512 .f32) (r : Fin 256) (c : Fin 512) :
    concatenate S2x256x512 0
      [⟨S1x256x512, broadcastInDim S1x256x512 ![1, 2] bcast_S256x512_S1x256x512_1_2 A⟩,
       ⟨S1x256x512, broadcastInDim S1x256x512 ![1, 2] bcast_S256x512_S1x256x512_1_2 B⟩]
      concatenates_S1x256x512_S1x256x512_S2x256x512_d0 (ix3 0 r c) = A (ix2 r c) := by
  pointwise
/-- and the values. -/
theorem cat_snd (A B : FVec Ideal S256x512 .f32) (r : Fin 256) (c : Fin 512) :
    concatenate S2x256x512 0
      [⟨S1x256x512, broadcastInDim S1x256x512 ![1, 2] bcast_S256x512_S1x256x512_1_2 A⟩,
       ⟨S1x256x512, broadcastInDim S1x256x512 ![1, 2] bcast_S256x512_S1x256x512_1_2 B⟩]
      concatenates_S1x256x512_S1x256x512_S2x256x512_d0 (ix3 1 r c) = B (ix2 r c) := by
  pointwise

set_option maxRecDepth 16384 in
/-- A device's keys or values as a matrix. -/
theorem mat_read (A : FVec Ideal S2x128x8x64 .f32) (b : Fin 2) (j : Fin 128) (h : Fin 8) (e : Fin 64) :
    shapeCast S256x512 A shapeCasts_S2x128x8x64_S256x512 (ix2 (row b j) (hcol h e)) = A (ix4 b j h e) := by
  pointwise
  rw [show (⟨(128 * b.val + j.val) / 128, by omega⟩ : Fin 2) = b from Fin.ext (by show (128 * b.val + j.val) / 128 = b.val; omega),
    show (⟨(128 * b.val + j.val) % 128, by omega⟩ : Fin 128) = j from Fin.ext (by show (128 * b.val + j.val) % 128 = j.val; omega),
    show (⟨(64 * h.val + e.val) / 64, by omega⟩ : Fin 8) = h from Fin.ext (by show (64 * h.val + e.val) / 64 = h.val; omega),
    show (⟨(64 * h.val + e.val) % 64, by omega⟩ : Fin 64) = e from Fin.ext (by show (64 * h.val + e.val) % 64 = e.val; omega)]

/-- The keys of a block at an index. -/
theorem keys_read (b : Fin 2) (j : Fin 128) (h : Fin 8) (e : Fin 64) :
    kk (kvs m d) (ix2 (row b j) (hcol h e)) = m ((d.tc : Thread nD τ).loc main_arg2) (ix4 b j h e) := by
  unfold kk
  rw [ix2_eq_valueIdx, show flat4 (slab 0 hk0 (kvs m d)) _ = _ from flat4_slab 0 hk0 _ _ _, ← ix3_eq_valueIdx, kvs_eq]
  exact (cat_fst _ _ _ _).trans (mat_read _ _ _ _ _)

/-- The values of a block at an index. -/
theorem vals_read (b : Fin 2) (j : Fin 128) (h : Fin 8) (e : Fin 64) :
    vv (kvs m d) (ix2 (row b j) (hcol h e)) = m ((d.tc : Thread nD τ).loc main_arg3) (ix4 b j h e) := by
  unfold vv
  rw [ix2_eq_valueIdx, show flat4 (slab 1 hk1 (kvs m d)) _ = _ from flat4_slab 1 hk1 _ _ _, ← ix3_eq_valueIdx, kvs_eq]
  exact (cat_snd _ _ _ _).trans (mat_read _ _ _ _ _)

set_option maxRecDepth 16384 in
/-- The input's rows at an index. -/
theorem rows_read (x : FVec Ideal S2x128x512 .f32) (b : Fin 2) (i : Fin 128) (k : Fin 512) :
    shapeCast S256x512 x shapeCasts_S2x128x512_S256x512 (ix2 (row b i) k) = x (ix3 b i k) := by
  pointwise
  refine congrArg x (congrArg₂ (fun y z => ix3 y z k) (Fin.ext ?_) (Fin.ext ?_))
  · show (128 * b.val + i.val) / 128 = b.val; omega
  · show (128 * b.val + i.val) % 128 = i.val; omega

set_option maxRecDepth 16384 in
/-- The result's rows at an index. -/
theorem res_read (x : FVec Ideal S256x512 .f32) (b : Fin 2) (i : Fin 128) (k : Fin 512) :
    shapeCast S2x128x512 x shapeCasts_S256x512_S2x128x512 (ix3 b i k) = x (ix2 (row b i) k) := by
  pointwise
  exact congrArg x (congrArg (fun y => ix2 y k) (Fin.ext (congrArg (· + i.val) (Nat.mul_comm _ _))))

/-! ## Blocks of the whole arrays -/

/-- A block of a whole array of rank three. -/
theorem block3 (W : FVec Ideal ⟨3, ![2, 4096, 512]⟩ .f32) (c : Dev nD) (b : Fin 2) (i : Fin 128) (k : Fin 512) :
    Layout.block ⟨3, ![2, 128, 512]⟩ ⟨3, ![2, 4096, 512]⟩ 1 32 c W (by decide) (ix3 b i k) = W (ix3 b (col cut c i) k) := by
  rw [Layout.block_apply]
  refine congrArg W (funext fun a => Fin.ext ?_)
  fin_cases a
  · rfl
  · show c.val * 128 + i.val = 128 * c.val + i.val; omega
  · rfl

/-- A block of a whole array of rank four. -/
theorem block4 (W : FVec Ideal ⟨4, ![2, 4096, 8, 64]⟩ .f32) (c : Dev nD) (b : Fin 2) (i : Fin 128) (h : Fin 8) (e : Fin 64) :
    Layout.block ⟨4, ![2, 128, 8, 64]⟩ ⟨4, ![2, 4096, 8, 64]⟩ 1 32 c W (by decide) (ix4 b i h e) = W (ix4 b (col cut c i) h e) := by
  rw [Layout.block_apply]
  refine congrArg W (funext fun a => Fin.ext ?_)
  fin_cases a
  · rfl
  · show c.val * 128 + i.val = 128 * c.val + i.val; omega
  · rfl
  · rfl

/-- What a device's result holds: its block of the attention. -/
theorem result_block (X : FVec Ideal ⟨3, ![2, 4096, 512]⟩ .f32) (WQ : FVec Ideal ⟨2, ![512, 512]⟩ .f32)
    (K V : FVec Ideal ⟨4, ![2, 4096, 8, 64]⟩ .f32) (WO : FVec Ideal ⟨2, ![512, 512]⟩ .f32)
    (h0 : ∀ c : Dev nD, m ((c.tc : Thread nD τ).loc main_arg0) = Layout.block ⟨3, ![2, 128, 512]⟩ ⟨3, ![2, 4096, 512]⟩ 1 32 c X)
    (h1 : ∀ c : Dev nD, m ((c.tc : Thread nD τ).loc main_arg1) = WQ)
    (h2 : ∀ c : Dev nD, m ((c.tc : Thread nD τ).loc main_arg2) = Layout.block ⟨4, ![2, 128, 8, 64]⟩ ⟨4, ![2, 4096, 8, 64]⟩ 1 32 c K)
    (h3 : ∀ c : Dev nD, m ((c.tc : Thread nD τ).loc main_arg3) = Layout.block ⟨4, ![2, 128, 8, 64]⟩ ⟨4, ![2, 4096, 8, 64]⟩ 1 32 c V)
    (h4 : ∀ c : Dev nD, m ((c.tc : Thread nD τ).loc main_arg4) = WO) (c : Dev nD) :
    shapeCast S2x128x512 (outB m c) shapeCasts_S256x512_S2x128x512
      = Layout.block ⟨3, ![2, 128, 512]⟩ ⟨3, ![2, 4096, 512]⟩ 1 32 c (outArr X WQ K V WO) := by
  have hkv : Holds K V (kvs m) := fun d b j h e =>
    ⟨by rw [keys_read, h2]; exact block4 K d b j h e, by rw [vals_read, h3]; exact block4 V d b j h e⟩
  have hq : Asks X WQ c (queries (V0 m c (Proc.devRef .tc main_v1)) (V0 m c (Proc.devRef .tc main_arg1))) := fun b i o => by
    rw [queries_read, v1_eq, wq_eq, h1]
    refine Finset.sum_congr rfl fun k _ => congrArg (· * WQ (ix2 k o)) ?_
    rw [rows_read, h0]
    exact block3 X c b i k
  funext x
  obtain ⟨b, i, o, rfl⟩ : ∃ (b : Fin 2) (i : Fin 128) (o : Fin 512), x = ix3 b i o :=
    ⟨x 0, x 1, x 2, (ValueIdx.eq_ix3 x).trans (ix3_eq_valueIdx _ _ _).symm⟩
  rw [res_read]
  unfold outB outOf
  rw [stored hkv hq, wo_eq, h4]
  exact (block3 (outArr X WQ K V WO) c b i o).symm

end Cert.KernelIdeal.Att

end
-- ==== Proof.RefVal.lean ====
/-
What the reference computes, index by index: the attention of the whole arrays, from four chunks of columns.
-/
module

public import proofs.«01_k».proof.Proof.Gen.ReferenceIdeal.Run
public import proofs.«01_k».proof.Proof.Spec
public import Idealize.ShloMosaic.Lib.Pointwise

@[expose] public section

noncomputable section

namespace Cert.ReferenceIdeal.Att

open Cert.ReferenceIdeal Cert.ReferenceIdeal.Gen Cert.ReferenceIdeal.Value Cert.Soft
open Idealize.ShloMosaic Idealize.ShloMosaic.TcCoe

/-- The state of all queries and heads: the maxima, the denominators, the accumulators. -/
structure RefSt where
  /-- the maxima -/
  m : FVec Ideal S2x8x4096x1 .f32
  /-- the denominators -/
  l : FVec Ideal S2x8x4096x1 .f32
  /-- the accumulators -/
  a : FVec Ideal S2x4096x8x64 .f32

/-- The state before any chunk. -/
def refInit : RefSt where
  m := broadcastInDim S2x8x4096x1 ![] bcast_S_S2x8x4096x1 (constant S_ .f32 0xFF800000#32)
  l := broadcastInDim S2x8x4096x1 ![] bcast_S_S2x8x4096x1 (constant S_ .f32 0x00000000#32)
  a := broadcastInDim S2x4096x8x64 ![] bcast_S_S2x4096x8x64 (constant S_ .f32 0x00000000#32)

/-- The scores of a chunk. -/
def refScore (q : FVec Ideal S2x4096x8x64 .f32) (k : FVec Ideal S2x1024x8x64 .f32) : FVec Ideal S2x8x4096x1024 .f32 :=
  mulf (Host.dotGeneral dot_S2x4096x8x64_S2x1024x8x64_S2x8x4096x1024_3_3_1_1_02_02 none q k)
    (broadcastInDim S2x8x4096x1024 ![] bcast_S_S2x8x4096x1024 (constant S_ .f32 0x3E000000#32))

/-- The maxima after a chunk. -/
def refMax (sc : FVec Ideal S2x8x4096x1024 .f32) (m : FVec Ideal S2x8x4096x1 .f32) : FVec Ideal S2x8x4096x1 .f32 :=
  maximumf m (broadcastInDim S2x8x4096x1 ![0, 1, 2] bcast_S2x8x4096_S2x8x4096x1_0_1_2
    (Host.reduce FloatOps.maximumf sc (constant S_ .f32 0xFF800000#32) reducesTo_S2x8x4096x1024_S2x8x4096_d3 h_S_))

/-- The exponentials of a chunk. -/
def refExp (sc : FVec Ideal S2x8x4096x1024 .f32) (m' : FVec Ideal S2x8x4096x1 .f32) : FVec Ideal S2x8x4096x1024 .f32 :=
  Host.exp (subf sc (broadcastInDim S2x8x4096x1024 ![0, 1, 2, 3] bcast_S2x8x4096x1_S2x8x4096x1024_0_1_2_3 m'))

/-- The update by one chunk. -/
def refStep (sc : FVec Ideal S2x8x4096x1024 .f32) (v : FVec Ideal S2x1024x8x64 .f32) (s : RefSt) : RefSt where
  m := refMax sc s.m
  l := addf (mulf s.l (Host.exp (subf s.m (refMax sc s.m))))
    (broadcastInDim S2x8x4096x1 ![0, 1, 2] bcast_S2x8x4096_S2x8x4096x1_0_1_2
      (Host.reduceAdd (refExp sc (refMax sc s.m)) (constant S_ .f32 0x00000000#32) reducesTo_S2x8x4096x1024_S2x8x4096_d3 h_S_))
  a := addf (mulf s.a (broadcastInDim S2x4096x8x64 ![0, 1, 2, 3] bcast_S2x4096x8x1_S2x4096x8x64_0_1_2_3
      (transpose S2x4096x8x1 [0, 2, 1, 3] (Host.exp (subf s.m (refMax sc s.m))) transposes_S2x8x4096x1_S2x4096x8x1_0_2_1_3)))
    (transpose S2x4096x8x64 [0, 3, 1, 2] (Host.dotGeneral dot_S2x1024x8x64_S2x8x4096x1024_S2x8x64x4096_1_3_3_2_02_01 none v
      (refExp sc (refMax sc s.m))) transposes_S2x8x64x4096_S2x4096x8x64_0_3_1_2)

/-- The queries. -/
def refQ (x : FVec Ideal S2x4096x512 .f32) (wq : FVec Ideal S512x512 .f32) : FVec Ideal S2x4096x8x64 .f32 :=
  shapeCast S2x4096x8x64 (Host.dotGeneral (dot_S2x4096x512_S512x512_S2x4096x512_2_0_01_1_n_n) none x wq) shapeCasts_S2x4096x512_S2x4096x8x64

/-- One chunk of the keys or the values. -/
abbrev chunk0 (k : FVec Ideal S2x4096x8x64 .f32) : FVec Ideal S2x1024x8x64 .f32 :=
  extractStridedSlice S2x1024x8x64 ![0, 0, 0, 0] k slices_S2x4096x8x64_S2x1024x8x64_0_0_0_0
/-- The second chunk. -/
abbrev chunk1 (k : FVec Ideal S2x4096x8x64 .f32) : FVec Ideal S2x1024x8x64 .f32 :=
  extractStridedSlice S2x1024x8x64 ![0, 1024, 0, 0] k slices_S2x4096x8x64_S2x1024x8x64_0_1024_0_0
/-- The third chunk. -/
abbrev chunk2 (k : FVec Ideal S2x4096x8x64 .f32) : FVec Ideal S2x1024x8x64 .f32 :=
  extractStridedSlice S2x1024x8x64 ![0, 2048, 0, 0] k slices_S2x4096x8x64_S2x1024x8x64_0_2048_0_0
/-- The last chunk. -/
abbrev chunk3 (k : FVec Ideal S2x4096x8x64 .f32) : FVec Ideal S2x1024x8x64 .f32 :=
  extractStridedSlice S2x1024x8x64 ![0, 3072, 0, 0] k slices_S2x4096x8x64_S2x1024x8x64_0_3072_0_0

/-- The state after the four chunks. -/
def refEnd (q k v : FVec Ideal S2x4096x8x64 .f32) : RefSt :=
  refStep (refScore q (chunk3 k)) (chunk3 v) (refStep (refScore q (chunk2 k)) (chunk2 v)
    (refStep (refScore q (chunk1 k)) (chunk1 v) (refStep (refScore q (chunk0 k)) (chunk0 v) refInit)))

/-- The result of a state. -/
def refOut (s : RefSt) (wo : FVec Ideal S512x512 .f32) : FVec Ideal S2x4096x512 .f32 :=
  Host.dotGeneral dot_S2x4096x512_S512x512_S2x4096x512_2_0_01_1_n_n none
    (shapeCast S2x4096x512 (Host.divf s.a (broadcastInDim S2x4096x8x64 ![0, 1, 2, 3] bcast_S2x4096x8x1_S2x4096x8x64_0_1_2_3
      (transpose S2x4096x8x1 [0, 2, 1, 3] s.l transposes_S2x8x4096x1_S2x4096x8x1_0_2_1_3))) shapeCasts_S2x4096x8x64_S2x4096x512) wo

variable (m : (ℓ : Loc nD τ sig) → Buf (Elt Ideal) ℓ) (c : Dev nD)

/-- The reference's result as the state's result. -/
theorem res_eq : res_main_v101 (F := Ideal) m c
    = refOut (refEnd (refQ (m ((c.tc : Thread nD τ).loc main_arg0)) (m ((c.tc : Thread nD τ).loc main_arg1)))
        (m ((c.tc : Thread nD τ).loc main_arg2)) (m ((c.tc : Thread nD τ).loc main_arg3))) (m ((c.tc : Thread nD τ).loc main_arg4)) := rfl

/-- The state at one query, head and value column. -/
def RefSt.tri (s : RefSt) (b : Fin 2) (i : Fin 4096) (h : Fin 8) (e : Fin 64) : Tri :=
  ⟨s.m (ix4 b h i 0), s.l (ix4 b h i 0), s.a (ix4 b i h e)⟩

set_option maxRecDepth 16384 in
/-- The first state. -/
theorem refInit_tri (b : Fin 2) (i : Fin 4096) (h : Fin 8) (e : Fin 64) : refInit.tri b i h e = init := by
  unfold refInit RefSt.tri init
  refine Tri.mk.injEq .. |>.mpr ⟨?_, ?_, ?_⟩
  · pointwise
    exact ofBits_neg_inf
  · pointwise
  · pointwise

/-- A maximum along the last axis of four. -/
theorem rowMax {a b c n : ℕ} (x : FVec Ideal ⟨4, ![a, b, c, n]⟩ .f32) (w : FVec Ideal S_ .f32)
    (h : (⟨4, ![a, b, c, n]⟩ : Shape).ReducesTo [3] ⟨3, ![a, b, c]⟩) (hu : 0 < S_.numel) (i : Fin a) (j : Fin b) (k : Fin c) :
    Host.reduce FloatOps.maximumf x w h hu (ix3 i j k) = Finset.fold max (w (Shape.Idx.first hu)) (fun y => x (ix4 i j k y)) Finset.univ := by
  pointwise

/-- The larger of two, one of them without the last axis. -/
theorem max_read (m : FVec Ideal S2x8x4096x1 .f32) (R : FVec Ideal S2x8x4096 .f32) (b : Fin 2) (h : Fin 8) (i : Fin 4096) :
    maximumf m (broadcastInDim S2x8x4096x1 ![0, 1, 2] bcast_S2x8x4096_S2x8x4096x1_0_1_2 R) (ix4 b h i 0)
      = max (m (ix4 b h i 0)) (R (ix3 b h i)) := by
  pointwise

/-- The largest score of a chunk. -/
theorem chunkMax_read (sc : FVec Ideal S2x8x4096x1024 .f32) (b : Fin 2) (h : Fin 8) (i : Fin 4096) :
    Host.reduce FloatOps.maximumf sc (constant S_ .f32 0xFF800000#32) reducesTo_S2x8x4096x1024_S2x8x4096_d3 h_S_ (ix3 b h i)
      = Finset.univ.sup fun y : Fin 1024 => sc (ix4 b h i y) :=
  (rowMax sc _ _ _ b h i).trans
    ((congrArg (fun z : EReal => Finset.fold max z (fun y => sc (ix4 b h i y)) Finset.univ) ofBits_neg_inf).trans (fold_max_eq_sup _))

/-- The maxima at an index. -/
theorem refMax_read (sc : FVec Ideal S2x8x4096x1024 .f32) (m : FVec Ideal S2x8x4096x1 .f32) (b : Fin 2) (h : Fin 8) (i : Fin 4096) :
    refMax sc m (ix4 b h i 0) = max (m (ix4 b h i 0)) (Finset.univ.sup fun x : Fin 1024 => sc (ix4 b h i x)) :=
  (max_read m _ b h i).trans (congrArg (max (m (ix4 b h i 0))) (chunkMax_read sc b h i))

set_option maxRecDepth 16384 in
/-- The exponentials at an index. -/
theorem refExp_read (sc : FVec Ideal S2x8x4096x1024 .f32) (m : FVec Ideal S2x8x4096x1 .f32) (b : Fin 2) (h : Fin 8) (i : Fin 4096) (x : Fin 1024) :
    refExp sc m (ix4 b h i x) = Ideal.exp (sc (ix4 b h i x) - m (ix4 b h i 0)) := by
  pointwise [refExp]

set_option maxRecDepth 16384 in
/-- One chunk's update at an index. -/
theorem refStep_tri (sc : FVec Ideal S2x8x4096x1024 .f32) (v : FVec Ideal S2x1024x8x64 .f32) (s : RefSt)
    (b : Fin 2) (i : Fin 4096) (h : Fin 8) (e : Fin 64) :
    (refStep sc v s).tri b i h e = step (fun x : Fin 1024 => sc (ix4 b h i x)) (fun x => v (ix4 b x h e)) (s.tri b i h e) := by
  unfold refStep RefSt.tri step
  dsimp only
  rw [← refMax_read]
  refine Tri.mk.injEq .. |>.mpr ⟨rfl, ?_, ?_⟩
  · generalize refMax sc s.m = mm
    pointwise
    exact congrArg _ (Finset.sum_congr rfl fun x _ => refExp_read sc mm b h i x)
  · generalize refMax sc s.m = mm
    pointwise
    exact congrArg _ (Finset.sum_congr rfl fun x _ => by rw [refExp_read, mul_comm])

set_option maxRecDepth 16384 in
/-- The queries at an index. -/
theorem refQ_read (x : FVec Ideal S2x4096x512 .f32) (wq : FVec Ideal S512x512 .f32) (b : Fin 2) (i : Fin 4096) (h : Fin 8) (e : Fin 64) :
    refQ x wq (ix4 b i h e) = qry x wq b i (hcol h e) := by
  unfold qry
  pointwise [refQ]
  exact Finset.sum_congr rfl fun k _ => congrArg (fun y => x (ix3 b i k) * wq (ix2 k y)) (Fin.ext (congrArg (· + e.val) (Nat.mul_comm _ _)))

set_option maxRecDepth 16384 in
/-- The scores at an index. -/
theorem refScore_read (q : FVec Ideal S2x4096x8x64 .f32) (k : FVec Ideal S2x1024x8x64 .f32) (b : Fin 2) (h : Fin 8) (i : Fin 4096) (x : Fin 1024) :
    refScore q k (ix4 b h i x) = (∑ d : Fin 64, q (ix4 b i h d) * k (ix4 b x h d)) * scale := by
  pointwise [refScore]

/-- Four chunks of a thousand and twenty-four columns. -/
theorem cut4 : 4 * 1024 = 4096 := rfl

/-- The first chunk at an index, -/
theorem chunk0_read (k : FVec Ideal S2x4096x8x64 .f32) (b : Fin 2) (x : Fin 1024) (h : Fin 8) (e : Fin 64) :
    chunk0 k (ix4 b x h e) = k (ix4 b (col cut4 0 x) h e) := by
  pointwise [chunk0]
  exact congrArg (fun y => k (ix4 b y h e)) (Fin.ext (Nat.zero_add _).symm)
/-- the second, -/
theorem chunk1_read (k : FVec Ideal S2x4096x8x64 .f32) (b : Fin 2) (x : Fin 1024) (h : Fin 8) (e : Fin 64) :
    chunk1 k (ix4 b x h e) = k (ix4 b (col cut4 1 x) h e) := by
  pointwise [chunk1]
  rfl
/-- the third, -/
theorem chunk2_read (k : FVec Ideal S2x4096x8x64 .f32) (b : Fin 2) (x : Fin 1024) (h : Fin 8) (e : Fin 64) :
    chunk2 k (ix4 b x h e) = k (ix4 b (col cut4 2 x) h e) := by
  pointwise [chunk2]
  rfl
/-- and the last. -/
theorem chunk3_read (k : FVec Ideal S2x4096x8x64 .f32) (b : Fin 2) (x : Fin 1024) (h : Fin 8) (e : Fin 64) :
    chunk3 k (ix4 b x h e) = k (ix4 b (col cut4 3 x) h e) := by
  pointwise [chunk3]
  rfl

set_option maxRecDepth 16384 in
/-- The result at an index. -/
theorem refOut_read (s : RefSt) (wo : FVec Ideal S512x512 .f32) (b : Fin 2) (i : Fin 4096) (o : Fin 512) :
    refOut s wo (ix3 b i o) = ∑ c : Fin 512, Ideal.div (s.tri b i ⟨c.val / 64, by omega⟩ ⟨c.val % 64, Nat.mod_lt _ (by decide)⟩).a
      (s.tri b i ⟨c.val / 64, by omega⟩ ⟨c.val % 64, Nat.mod_lt _ (by decide)⟩).l * wo (ix2 c o) := by
  pointwise [refOut, RefSt.tri]

/-! ## The four chunks -/

/-- One chunk more: the state of the columns of `D` becomes the state with the chunk's columns. -/
theorem chunk_step (X : FVec Ideal S2x4096x512 .f32) (WQ : FVec Ideal S512x512 .f32) (K V : FVec Ideal S2x4096x8x64 .f32)
    {D : Finset (Fin 4)} {d : Fin 4} (hd : d ∉ D) {kd vd : FVec Ideal S2x1024x8x64 .f32}
    (hk : ∀ b x h e, kd (ix4 b x h e) = K (ix4 b (col cut4 d x) h e)) (hv : ∀ b x h e, vd (ix4 b x h e) = V (ix4 b (col cut4 d x) h e))
    {s : RefSt} (hs : ∀ b i h e, s.tri b i h e = att X WQ K V b i h e (cols cut4 D)) (b : Fin 2) (i : Fin 4096) (h : Fin 8) (e : Fin 64) :
    (refStep (refScore (refQ X WQ) kd) vd s).tri b i h e = att X WQ K V b i h e (cols cut4 (insert d D)) := by
  rw [refStep_tri, hs, cols_insert]
  unfold att
  rw [← step_image _ _ _ (col cut4 d) (col_inj cut4 d) (cols_disjoint cut4 hd)]
  congr 1
  · funext x
    rw [refScore_read]
    unfold sco
    refine congrArg (· * scale) (Finset.sum_congr rfl fun y _ => ?_)
    rw [refQ_read, hk]
  · exact funext fun x => hv b x h e

/-- After all four. -/
theorem refEnd_tri (X : FVec Ideal S2x4096x512 .f32) (WQ : FVec Ideal S512x512 .f32) (K V : FVec Ideal S2x4096x8x64 .f32)
    (b : Fin 2) (i : Fin 4096) (h : Fin 8) (e : Fin 64) :
    (refEnd (refQ X WQ) K V).tri b i h e = att X WQ K V b i h e Finset.univ := by
  rw [← cols_univ cut4, show (Finset.univ : Finset (Fin 4)) = insert 3 (insert 2 (insert 1 (insert 0 ∅))) from by decide]
  refine chunk_step X WQ K V (by decide) (chunk3_read K) (chunk3_read V) ?_ b i h e
  refine chunk_step X WQ K V (by decide) (chunk2_read K) (chunk2_read V) ?_
  refine chunk_step X WQ K V (by decide) (chunk1_read K) (chunk1_read V) ?_
  refine chunk_step X WQ K V (by decide) (chunk0_read K) (chunk0_read V) ?_
  intro b i h e
  rw [refInit_tri]
  exact (st_empty _ _).symm

/-- The reference's result: the attention. -/
theorem res_read (X : FVec Ideal S2x4096x512 .f32) (WQ WO : FVec Ideal S512x512 .f32) (K V : FVec Ideal S2x4096x8x64 .f32)
    (b : Fin 2) (i : Fin 4096) (o : Fin 512) :
    refOut (refEnd (refQ X WQ) K V) WO (ix3 b i o) = out X WQ K V WO b i o := by
  rw [refOut_read]
  refine Finset.sum_congr rfl fun x _ => congrArg (· * WO (ix2 x o)) ?_
  rw [refEnd_tri]
  rfl

/-- The same, for the whole array. -/
theorem res_arr (X : FVec Ideal S2x4096x512 .f32) (WQ WO : FVec Ideal S512x512 .f32) (K V : FVec Ideal S2x4096x8x64 .f32) :
    refOut (refEnd (refQ X WQ) K V) WO = outArr X WQ K V WO := by
  funext x
  obtain ⟨b, i, o, rfl⟩ : ∃ (b : Fin 2) (i : Fin 4096) (o : Fin 512), x = ix3 b i o :=
    ⟨x 0, x 1, x 2, (ValueIdx.eq_ix3 x).trans (ix3_eq_valueIdx _ _ _).symm⟩
  exact res_read X WQ WO K V b i o

end Cert.ReferenceIdeal.Att

end
-- ==== Proof.lean ====
/- The proof of what the certificate states: the two programs of the kernel run to quiescence with their arguments
   kept, the one with the named constant is the other with that constant in place, and it computes, block by block,
   what the reference computes. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.EndKI
public import proofs.«01_k».proof.Proof.RefVal
public import proofs.«01_k».proof.Proof.RunK

@[expose] public section

noncomputable section

namespace Cert.Proof

open Idealize.ShloMosaic Idealize.SL.Sem

/-- The kernel runs to quiescence, its arguments kept. -/
theorem kernel_frame : @Cert.quiescent_Kernel Cert.Kernel.Gen.facts := fun m g _ =>
  (θ_run Cert.Kernel.defs _ _).mono (fun _ h => ⟨fun c => (h.1 c).2, h.2⟩) (Cert.Kernel.Att.run_value (F := Bits) m g)

/-- So does the kernel with its constant named, -/
theorem ideal_frame : @Cert.quiescent_KernelIdeal Cert.KernelIdeal.Gen.facts := fun m g _ =>
  (θ_run Cert.KernelIdeal.defs _ _).mono (fun _ h => ⟨fun c => (h.1 c).2, h.2⟩) (Cert.KernelIdeal.Att.run_value (F := Ideal) m g)

/-- and the reference. -/
theorem reference_frame : @Cert.quiescent_ReferenceIdeal Cert.ReferenceIdeal.Gen.facts := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

/-- The named constant is the mask's value. -/
theorem constant_named : Cert.preserves_Kernel_KernelIdeal :=
  IdealRules.named_const.statement Cert.KernelIdeal.κ "mask" .f32 0xF149F2CA#32 ⊥ rfl

/-- Both programs compute the attention: the reference the whole, each device of the kernel its block. -/
theorem same_value : @Cert.algebraic_KernelIdeal_ReferenceIdeal Cert.KernelIdeal.Gen.facts Cert.ReferenceIdeal.Gen.facts :=
  fun m g m' g' _ h => by
  refine ⟨Cert.Soft.outArr _ _ _ _ _,
    (θ_run Cert.KernelIdeal.defs _ _).mono (fun _ r c => ⟨(r.1 c).1.trans (Cert.KernelIdeal.Att.result_block m _ _ _ _ _
      (fun c => (h c).1) (fun c => (h c).2.1) (fun c => (h c).2.2.1) (fun c => (h c).2.2.2.1) (fun c => (h c).2.2.2.2) c), (r.1 c).2⟩)
      (Cert.KernelIdeal.Att.run_value (F := Ideal) m g),
    (θ_run Cert.ReferenceIdeal.defs _ _).mono (fun _ r => ⟨(r 0).1.trans ?_, (r 0).2⟩) (Cert.ReferenceIdeal.Value.run (F := Ideal) m' g')⟩
  rw [Cert.ReferenceIdeal.Att.res_eq]
  exact Cert.ReferenceIdeal.Att.res_arr _ _ _ _ _

/-- The five claims together. -/
theorem claim : Cert.Claim := ⟨Cert.Kernel.Gen.facts, Cert.KernelIdeal.Gen.facts, Cert.ReferenceIdeal.Gen.facts,
  kernel_frame, ideal_frame, reference_frame, constant_named, same_value⟩

end Cert.Proof

end
